-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x16384 : Shape := ⟨3, ![2, 896, 16384]⟩
abbrev S2x896 : Shape := ⟨2, ![2, 896]⟩
abbrev S96x16384 : Shape := ⟨2, ![96, 16384]⟩
abbrev S96 : Shape := ⟨1, ![96]⟩
abbrev S2x896x4 : Shape := ⟨3, ![2, 896, 4]⟩
abbrev S1792x16384 : Shape := ⟨2, ![1792, 16384]⟩
abbrev S1x96 : Shape := ⟨2, ![1, 96]⟩
abbrev S2x4x896 : Shape := ⟨3, ![2, 4, 896]⟩
abbrev S2x96x896 : Shape := ⟨3, ![2, 96, 896]⟩
abbrev S14x96x128 : Shape := ⟨3, ![14, 96, 128]⟩
abbrev S7 : Shape := ⟨1, ![7]⟩
abbrev S3 : Shape := ⟨1, ![3]⟩
abbrev S_ : Shape := ⟨0, ![]⟩
abbrev S4 : Shape := ⟨1, ![4]⟩
abbrev S14 : Shape := ⟨1, ![14]⟩
abbrev S1 : Shape := ⟨1, ![1]⟩
abbrev S256x16384 : Shape := ⟨2, ![256, 16384]⟩
abbrev S96x128 : Shape := ⟨2, ![96, 128]⟩
abbrev S1x1x128 : Shape := ⟨3, ![1, 1, 128]⟩
abbrev S1x128 : Shape := ⟨2, ![1, 128]⟩
abbrev S96x1 : Shape := ⟨2, ![96, 1]⟩
abbrev S96x96 : Shape := ⟨2, ![96, 96]⟩
abbrev S96x2048 : Shape := ⟨2, ![96, 2048]⟩
abbrev S96x256 : Shape := ⟨2, ![96, 256]⟩
abbrev S128 : Shape := ⟨1, ![128]⟩
abbrev S1x96x128 : Shape := ⟨3, ![1, 96, 128]⟩
abbrev S128x96 : Shape := ⟨2, ![128, 96]⟩
abbrev S2x896x96 : Shape := ⟨3, ![2, 896, 96]⟩

abbrev nBuf : Space → Nat
  | .hbm => 15
  | .vmem => 11
  | .smem => 0
  | _ => 0

abbrev bufTy : (tb : Table) → Fin (tcTables nBuf tb) → BufTy
  | .hbm, ⟨0, _⟩ => ⟨S2x896x16384, .fp8e4m3⟩
  | .hbm, ⟨1, _⟩ => ⟨S2x896, .f32⟩
  | .hbm, ⟨2, _⟩ => ⟨S96x16384, .i8⟩
  | .hbm, ⟨3, _⟩ => ⟨S96, .f32⟩
  | .hbm, ⟨4, _⟩ => ⟨S2x896x4, .i32⟩
  | .hbm, ⟨5, _⟩ => ⟨S1792x16384, .fp8e4m3⟩
  | .hbm, ⟨6, _⟩ => ⟨S1x96, .f32⟩
  | .hbm, ⟨7, _⟩ => ⟨S2x4x896, .i32⟩
  | .hbm, ⟨8, _⟩ => ⟨S2x896, .f32⟩
  | .hbm, ⟨9, _⟩ => ⟨S2x896, .f32⟩
  | .hbm, ⟨10, _⟩ => ⟨S1x96, .f32⟩
  | .hbm, ⟨11, _⟩ => ⟨S2x896, .f32⟩
  | .hbm, ⟨12, _⟩ => ⟨S2x96x896, .f32⟩
  | .hbm, ⟨13, _⟩ => ⟨S96, .f32⟩
  | .hbm, ⟨14, _⟩ => ⟨S2x896x96, .f32⟩
  | .local _ .vmem, ⟨0, _⟩ => ⟨S1792x16384, .fp8e4m3⟩
  | .local _ .vmem, ⟨1, _⟩ => ⟨S2x896, .f32⟩
  | .local _ .vmem, ⟨2, _⟩ => ⟨S96x16384, .i8⟩
  | .local _ .vmem, ⟨3, _⟩ => ⟨S96x16384, .bf16⟩
  | .local _ .vmem, ⟨4, _⟩ => ⟨S1x96, .f32⟩
  | .local _ .vmem, ⟨5, _⟩ => ⟨S2x4x896, .i32⟩
  | .local _ .vmem, ⟨6, _⟩ => ⟨S2x896, .f32⟩
  | .local _ .vmem, ⟨7, _⟩ => ⟨S2x896, .f32⟩
  | .local _ .vmem, ⟨8, _⟩ => ⟨S1x96, .f32⟩
  | .local _ .vmem, ⟨9, _⟩ => ⟨S2x896, .f32⟩
  | .local _ .vmem, ⟨10, _⟩ => ⟨S14x96x128, .f32⟩
  | _, _ => ⟨S2x896x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩

abbrev nD : Nat := 1
abbrev τ : Topo := Topo.v7x

variable {F : FTy → Type} [FloatOps F]

abbrev grid0 : Pipeline.Grid := .none
-- ==== ReferenceIdeal.lean ====
abbrev S2x896x16384 : Shape := ⟨3, ![2, 896, 16384]⟩
abbrev S2x896 : Shape := ⟨2, ![2, 896]⟩
abbrev S96x16384 : Shape := ⟨2, ![96, 16384]⟩
abbrev S96 : Shape := ⟨1, ![96]⟩
abbrev S2x896x4 : Shape := ⟨3, ![2, 896, 4]⟩
abbrev S7168 : Shape := ⟨1, ![7168]⟩
abbrev S7168x1 : Shape := ⟨2, ![7168, 1]⟩
abbrev S1x96 : Shape := ⟨2, ![1, 96]⟩
abbrev S7168x96 : Shape := ⟨2, ![7168, 96]⟩
abbrev S_ : Shape := ⟨0, ![]⟩
abbrev S2x896x96 : Shape := ⟨3, ![2, 896, 96]⟩
abbrev S2x896x1 : Shape := ⟨3, ![2, 896, 1]⟩
abbrev S1x1x96 : Shape := ⟨3, ![1, 1, 96]⟩

abbrev nBuf : Space → Nat
  | .hbm => 80
  | .vmem => 3
  | .smem => 0
  | _ => 0

abbrev bufTy : (tb : Table) → Fin (tcTables nBuf tb) → BufTy
  | .hbm, ⟨0, _⟩ => ⟨S2x896x16384, .fp8e4m3⟩
  | .hbm, ⟨1, _⟩ => ⟨S2x896, .f32⟩
  | .hbm, ⟨2, _⟩ => ⟨S96x16384, .i8⟩
  | .hbm, ⟨3, _⟩ => ⟨S96, .f32⟩
  | .hbm, ⟨4, _⟩ => ⟨S2x896x4, .i32⟩
  | .hbm, ⟨5, _⟩ => ⟨S7168, .i32⟩
  | .hbm, ⟨6, _⟩ => ⟨S7168x1, .i32⟩
  | .hbm, ⟨7, _⟩ => ⟨S96, .i32⟩
  | .hbm, ⟨8, _⟩ => ⟨S1x96, .i32⟩
  | .hbm, ⟨9, _⟩ => ⟨S7168x96, .i32⟩
  | .hbm, ⟨10, _⟩ => ⟨S7168x96, .i32⟩
  | .hbm, ⟨11, _⟩ => ⟨S7168x96, .i1⟩
  | .hbm, ⟨12, _⟩ => ⟨S7168x96, .i32⟩
  | .hbm, ⟨13, _⟩ => ⟨S_, .i32⟩
  | .hbm, ⟨14, _⟩ => ⟨S96, .i32⟩
  | .hbm, ⟨15, _⟩ => ⟨S96, .f32⟩
  | .hbm, ⟨16, _⟩ => ⟨S_, .f32⟩
  | .hbm, ⟨17, _⟩ => ⟨S96, .f32⟩
  | .hbm, ⟨18, _⟩ => ⟨S96, .f32⟩
  | .hbm, ⟨19, _⟩ => ⟨S2x896x96, .f32⟩
  | .hbm, ⟨20, _⟩ => ⟨S2x896x1, .f32⟩
  | .hbm, ⟨21, _⟩ => ⟨S2x896x96, .f32⟩
  | .hbm, ⟨22, _⟩ => ⟨S2x896x96, .f32⟩
  | .hbm, ⟨23, _⟩ => ⟨S1x1x96, .f32⟩
  | .hbm, ⟨24, _⟩ => ⟨S2x896x96, .f32⟩
  | .hbm, ⟨25, _⟩ => ⟨S2x896x96, .f32⟩
  | .hbm, ⟨26, _⟩ => ⟨S_, .f32⟩
  | .hbm, ⟨27, _⟩ => ⟨S2x896, .f32⟩
  | .hbm, ⟨28, _⟩ => ⟨S2x896, .f32⟩
  | .hbm, ⟨29, _⟩ => ⟨S_, .f32⟩
  | .hbm, ⟨30, _⟩ => ⟨S2x896, .f32⟩
  | .hbm, ⟨31, _⟩ => ⟨S2x896, .i1⟩
  | .hbm, ⟨32, _⟩ => ⟨S_, .f32⟩
  | .hbm, ⟨33, _⟩ => ⟨S_, .f32⟩
  | .hbm, ⟨34, _⟩ => ⟨S2x896, .f32⟩
  | .hbm, ⟨35, _⟩ => ⟨S2x896, .f32⟩
  | .hbm, ⟨36, _⟩ => ⟨S2x896x1, .f32⟩
  | .hbm, ⟨37, _⟩ => ⟨S2x896x96, .f32⟩
  | .hbm, ⟨38, _⟩ => ⟨S2x896x96, .f32⟩
  | .hbm, ⟨39, _⟩ => ⟨S2x896x96, .f32⟩
  | .hbm, ⟨40, _⟩ => ⟨S_, .f32⟩
  | .hbm, ⟨41, _⟩ => ⟨S2x896, .f32⟩
  | .hbm, ⟨42, _⟩ => ⟨S2x896, .f32⟩
  | .hbm, ⟨43, _⟩ => ⟨S2x896, .f32⟩
  | .hbm, ⟨44, _⟩ => ⟨S2x896x1, .f32⟩
  | .hbm, ⟨45, _⟩ => ⟨S2x896x96, .f32⟩
  | .hbm, ⟨46, _⟩ => ⟨S2x896x96, .f32⟩
  | .hbm, ⟨47, _⟩ => ⟨S2x896x96, .f32⟩
  | .hbm, ⟨48, _⟩ => ⟨S_, .f32⟩
  | .hbm, ⟨49, _⟩ => ⟨S96, .f32⟩
  | .hbm, ⟨50, _⟩ => ⟨S_, .f32⟩
  | .hbm, ⟨51, _⟩ => ⟨S96, .f32⟩
  | .hbm, ⟨52, _⟩ => ⟨S96, .f32⟩
  | .hbm, ⟨53, _⟩ => ⟨S1x1x96, .f32⟩
  | .hbm, ⟨54, _⟩ => ⟨S2x896x96, .f32⟩
  | .hbm, ⟨55, _⟩ => ⟨S2x896x96, .f32⟩
  | .hbm, ⟨56, _⟩ => ⟨S_, .f32⟩
  | .hbm, ⟨57, _⟩ => ⟨S2x896, .f32⟩
  | .hbm, ⟨58, _⟩ => ⟨S_, .f32⟩
  | .hbm, ⟨59, _⟩ => ⟨S2x896, .f32⟩
  | .hbm, ⟨60, _⟩ => ⟨S2x896, .f32⟩
  | .hbm, ⟨61, _⟩ => ⟨S2x896, .f32⟩
  | .hbm, ⟨62, _⟩ => ⟨S_, .f32⟩
  | .hbm, ⟨63, _⟩ => ⟨S2x896, .f32⟩
  | .hbm, ⟨64, _⟩ => ⟨S2x896, .f32⟩
  | .hbm, ⟨65, _⟩ => ⟨S2x896x1, .f32⟩
  | .hbm, ⟨66, _⟩ => ⟨S1x1x96, .f32⟩
  | .hbm, ⟨67, _⟩ => ⟨S2x896x96, .f32⟩
  | .hbm, ⟨68, _⟩ => ⟨S2x896x96, .f32⟩
  | .hbm, ⟨69, _⟩ => ⟨S2x896x96, .f32⟩
  | .hbm, ⟨70, _⟩ => ⟨S_, .f32⟩
  | .hbm, ⟨71, _⟩ => ⟨S2x896x96, .f32⟩
  | .hbm, ⟨72, _⟩ => ⟨S2x896x96, .f32⟩
  | .hbm, ⟨73, _⟩ => ⟨S2x896x1, .f32⟩
  | .hbm, ⟨74, _⟩ => ⟨S_, .f32⟩
  | .hbm, ⟨75, _⟩ => ⟨S2x896x1, .f32⟩
  | .hbm, ⟨76, _⟩ => ⟨S2x896x1, .f32⟩
  | .hbm, ⟨77, _⟩ => ⟨S2x896x96, .f32⟩
  | .hbm, ⟨78, _⟩ => ⟨S2x896x96, .f32⟩
  | .hbm, ⟨79, _⟩ => ⟨S2x896x96, .f32⟩
  | .local _ .vmem, ⟨0, _⟩ => ⟨S2x896x16384, .fp8e4m3⟩
  | .local _ .vmem, ⟨1, _⟩ => ⟨S96x16384, .i8⟩
  | .local _ .vmem, ⟨2, _⟩ => ⟨S2x896x96, .f32⟩
  | _, _ => ⟨S2x896x16384, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x896x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x16384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KBody.lean ====
/-
  The kernel's body, run once. The kernel is one region without a grid: its five operands and five results stay in HBM, and
  its own copies bring the operands into scratch buffers and carry the results out. `kernelRun` is that run: from the
  operands held whole at given contents, the results and the scratch buffers held whole at anything, and each of the
  twenty-nine copy semaphores at zero, the body returns with the operands unchanged, the semaphores at zero, and the five
  results at contents that are terms over what the buffers held.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameSuffixV
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body's operands: the five arrays read in HBM, the five results in HBM, the eleven scratch buffers -/

abbrev I0 : Memref sig .tc .hbm S1792x16384 .fp8e4m3 := Memref.whole main_v0
abbrev I1 : Memref sig .tc .hbm S2x896 .f32 := Memref.whole main_arg1
abbrev I2 : Memref sig .tc .hbm S96x16384 .i8 := Memref.whole main_arg2
abbrev I3 : Memref sig .tc .hbm S1x96 .f32 := Memref.whole main_v1
abbrev I4 : Memref sig .tc .hbm S2x4x896 .i32 := Memref.whole main_v2
abbrev O0 : Memref sig .tc .hbm S2x896 .f32 := Memref.whole main_v3_0
abbrev O1 : Memref sig .tc .hbm S2x896 .f32 := Memref.whole main_v3_1
abbrev O2 : Memref sig .tc .hbm S1x96 .f32 := Memref.whole main_v3_2
abbrev O3 : Memref sig .tc .hbm S2x896 .f32 := Memref.whole main_v3_3
abbrev O4 : Memref sig .tc .hbm S2x96x896 .f32 := Memref.whole main_v3_4
abbrev X0 : Memref sig .tc .vmem S1792x16384 .fp8e4m3 := Memref.whole cc0_scratch0
abbrev X1 : Memref sig .tc .vmem S2x896 .f32 := Memref.whole cc0_scratch1
abbrev X2 : Memref sig .tc .vmem S96x16384 .i8 := Memref.whole cc0_scratch2
abbrev X3 : Memref sig .tc .vmem S96x16384 .bf16 := Memref.whole cc0_scratch3
abbrev X4 : Memref sig .tc .vmem S1x96 .f32 := Memref.whole cc0_scratch4
abbrev X5 : Memref sig .tc .vmem S2x4x896 .i32 := Memref.whole cc0_scratch5
abbrev X6 : Memref sig .tc .vmem S2x896 .f32 := Memref.whole cc0_scratch6
abbrev X7 : Memref sig .tc .vmem S2x896 .f32 := Memref.whole cc0_scratch7
abbrev X8 : Memref sig .tc .vmem S1x96 .f32 := Memref.whole cc0_scratch8
abbrev X9 : Memref sig .tc .vmem S2x896 .f32 := Memref.whole cc0_scratch9
abbrev X10 : Memref sig .tc .vmem S14x96x128 .f32 := Memref.whole cc0_scratch10

/-- What the body leaves in the five results (over what the buffers held), WITH the proof of the run. -/
noncomputable def kernelRun (c : Dev nD)
    (f0 : Bf (F := F) c I0) (f1 : Bf (F := F) c I1) (f2 : Bf (F := F) c I2) (f3 : Bf (F := F) c I3) (f4 : Bf (F := F) c I4)
    (o0 : Bf (F := F) c O0) (o1 : Bf (F := F) c O1) (o2 : Bf (F := F) c O2) (o3 : Bf (F := F) c O3) (o4 : Bf (F := F) c O4)
    (s0 : Bf (F := F) c X0) (s1 : Bf (F := F) c X1) (s2 : Bf (F := F) c X2) (s3 : Bf (F := F) c X3) (s4 : Bf (F := F) c X4) (s5 : Bf (F := F) c X5) (s6 : Bf (F := F) c X6) (s7 : Bf (F := F) c X7) (s8 : Bf (F := F) c X8) (s9 : Bf (F := F) c X9) (s10 : Bf (F := F) c X10) :
    { G : Bf (F := F) c O0 × Bf (F := F) c O1 × Bf (F := F) c O2 × Bf (F := F) c O3 × Bf (F := F) c O4 //
      ∀ (W : Waits sig Unit) (K : PUnit → sProp 𝕄),
        iprop(pt c I0 f0 ∗ pt c I1 f1 ∗ pt c I2 f2 ∗ pt c I3 f3 ∗ pt c I4 f4
          ∗ pt c O0 o0 ∗ pt c O1 o1 ∗ pt c O2 o2 ∗ pt c O3 o3 ∗ pt c O4 o4
          ∗ pt c X0 s0 ∗ pt c X1 s1 ∗ pt c X2 s2 ∗ pt c X3 s3 ∗ pt c X4 s4 ∗ pt c X5 s5 ∗ pt c X6 s6 ∗ pt c X7 s7 ∗ pt c X8 s8 ∗ pt c X9 s9 ∗ pt c X10 s10
          ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0
          ∗ owes (c : Thread nD τ) 0 W
          ∗ (iprop(pt c I0 f0 ∗ pt c I1 f1 ∗ pt c I2 f2 ∗ pt c I3 f3 ∗ pt c I4 f4
              ∗ pt c O0 G.1 ∗ pt c O1 G.2.1 ∗ pt c O2 G.2.2.1 ∗ pt c O3 G.2.2.2.1 ∗ pt c O4 G.2.2.2.2
              ∗ (∃ s, pt c X0 s) ∗ (∃ s, pt c X1 s) ∗ (∃ s, pt c X2 s) ∗ (∃ s, pt c X3 s) ∗ (∃ s, pt c X4 s) ∗ (∃ s, pt c X5 s) ∗ (∃ s, pt c X6 s) ∗ (∃ s, pt c X7 s) ∗ (∃ s, pt c X8 s) ∗ (∃ s, pt c X9 s) ∗ (∃ s, pt c X10 s)
              ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0
              ∗ (∃ W', owes (c : Thread nD τ) 0 W')) -∗ K ⟨⟩))
        ⊢ wp frame (wpE (defs₀ (F := F)) Variants.none c none) Set.univ
            (cc0_moe_router_losses I0 (Memref.isWhole_whole _) I1 (Memref.isWhole_whole _) I2 (Memref.isWhole_whole _) I3 (Memref.isWhole_whole _) I4 (Memref.isWhole_whole _) O0 (Memref.isWhole_whole _) O1 (Memref.isWhole_whole _) O2 (Memref.isWhole_whole _) O3 (Memref.isWhole_whole _) O4 (Memref.isWhole_whole _) X0 (Memref.isWhole_whole _) X1 (Memref.isWhole_whole _) X2 (Memref.isWhole_whole _) X3 (Memref.isWhole_whole _) X4 (Memref.isWhole_whole _) X5 (Memref.isWhole_whole _) X6 (Memref.isWhole_whole _) X7 (Memref.isWhole_whole _) X8 (Memref.isWhole_whole _) X9 (Memref.isWhole_whole _) X10 (Memref.isWhole_whole _)
              cc0_scratch11 cc0_scratch12 cc0_scratch13 cc0_scratch14 cc0_scratch15) K } := by
  refine ⟨⟨?_, ?_, ?_, ?_, ?_⟩, fun W K => ?run⟩
  case run =>
    iintro ⟨HI0, HI1, HI2, HI3, HI4, HO0, HO1, HO2, HO3, HO4, HX0, HX1, HX2, HX3, HX4, HX5, HX6, HX7, HX8, HX9, HX10,
      Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, HW, Hk⟩
    set_option sl_exec.dmaWindow true in
    sl_exec_parts!
    sl_step
    iapply Hk
    isplitl [HI0]; · iexact HI0
    isplitl [HI1]; · iexact HI1
    isplitl [HI2]; · iexact HI2
    isplitl [HI3]; · iexact HI3
    isplitl [HI4]; · iexact HI4
    isplitl [HO0]; · iexact HO0
    isplitl [HO1]; · iexact HO1
    isplitl [HO2]; · iexact HO2
    isplitl [HO3]; · iexact HO3
    isplitl [HO4]; · iexact HO4
    isplitl [HX0]; · iexists _; iexact HX0
    isplitl [HX1]; · iexists _; iexact HX1
    isplitl [HX2]; · iexists _; iexact HX2
    isplitl [HX3]; · iexists _; iexact HX3
    isplitl [HX4]; · iexists _; iexact HX4
    isplitl [HX5]; · iexists _; iexact HX5
    isplitl [HX6]; · iexists _; iexact HX6
    isplitl [HX7]; · iexists _; iexact HX7
    isplitl [HX8]; · iexists _; iexact HX8
    isplitl [HX9]; · iexists _; iexact HX9
    isplitl [HX10]; · iexists _; iexact HX10
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    iexists _; iexact HW

end Cert.Kernel.Hand

end
-- ==== Proof.KFrame.lean ====
/-
  The launch around the kernel's one run. The region's invariant is, before the body, the operands at what the host lines
  before the region left in them, the results and the scratch buffers at anything and the copy semaphores at zero; after
  the body, the same with the results at whatever the body's run leaves there, or anything that follows from it (`E`).
  Two launches are read off it: `frame`, where the results are forgotten — the arguments end as they started and every
  semaphore ends at zero —, and `run_results`, where they are kept.
-/
module

public import proofs.«01_k».proof.Proof.KBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The operands, the results and the semaphores, listed -/

/-- The operands that the body's copies read. -/
def H0 : Finset (Ref sig .tc) := {main_v0, main_arg1, main_arg2, main_v1, main_v2}
/-- The results that the body's copies write. -/
def R0 : Finset (Ref sig .tc) := {main_v3_0, main_v3_1, main_v3_2, main_v3_3, main_v3_4}
theorem H0_sub : H0 ⊆ Pipeline.restRefs sig spec0 := by decide
theorem R0_sub : R0 ⊆ Pipeline.restRefs sig spec0 \ H0 := by decide

/-- The body's twenty-nine copy semaphores. -/
abbrev osem0 : Fin 29 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28] : Fin 29 → SemLoc sig) j
theorem ownSemFacts0 : Pipeline.OwnSemFacts (cfgs (0 : Fin 1)).spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) := by
  rw [Pipeline.ownSems0_eq_of_list c osem0 [0, 1, 2, 3, 4, 5, 6, 7, 8, 9, 10, 11, 12, 13, 14, 15, 16, 17, 18, 19, 20, 21, 22, 23, 24, 25, 26, 27, 28] (by decide) (by decide)]; rfl
theorem hbmPts0_eq (c : Dev nD) :
    (bigSep H0 (fun b => ((c : Thread nD τ).loc b) ↦{fullShare} V m c b) : sProp 𝕄)
      = iprop(pt c I0 (V m c main_v0) ∗ pt c I1 (V m c main_arg1) ∗ pt c I2 (V m c main_arg2) ∗ pt c I3 (V m c main_v1) ∗ pt c I4 (V m c main_v2)) := by
  rw [BI.bigSep_eq_bigSepL_of_eq [main_v0, main_arg1, main_arg2, main_v1, main_v2] (by decide) (by decide)]; rfl
theorem ownedPts0_eq (c : Dev nD) :
    (Pipeline.owned R0 c : sProp 𝕄) = iprop((∃ f, pt c O0 f) ∗ (∃ f, pt c O1 f) ∗ (∃ f, pt c O2 f) ∗ (∃ f, pt c O3 f) ∗ (∃ f, pt c O4 f)) := by
  unfold Pipeline.owned; rw [BI.bigSep_eq_bigSepL_of_eq [main_v3_0, main_v3_1, main_v3_2, main_v3_3, main_v3_4] (by decide) (by decide)]; rfl
theorem resPts0_eq (G : (c : Dev nD) → (b : Ref sig .tc) → Buf (Elt F) ((c.tc : Thread nD τ).loc b)) (c : Dev nD) :
    (bigSep R0 (fun b => ((c : Thread nD τ).loc b) ↦{fullShare} G c b) : sProp 𝕄)
      = iprop(pt c O0 (G c main_v3_0) ∗ pt c O1 (G c main_v3_1) ∗ pt c O2 (G c main_v3_2) ∗ pt c O3 (G c main_v3_3) ∗ pt c O4 (G c main_v3_4)) := by
  rw [BI.bigSep_eq_bigSepL_of_eq [main_v3_0, main_v3_1, main_v3_2, main_v3_3, main_v3_4] (by decide) (by decide)]; rfl

/-! ## The invariant and the body -/

/-- Before the body: the scratch buffers and the results at anything, the semaphores at zero, the operands as entered. -/
def start (c : Dev nD) : sProp 𝕄 :=
  iprop(((∃ f, pt c X0 f) ∗ (∃ f, pt c X1 f) ∗ (∃ f, pt c X2 f) ∗ (∃ f, pt c X3 f) ∗ (∃ f, pt c X4 f) ∗ (∃ f, pt c X5 f) ∗ (∃ f, pt c X6 f) ∗ (∃ f, pt c X7 f) ∗ (∃ f, pt c X8 f) ∗ (∃ f, pt c X9 f) ∗ (∃ f, pt c X10 f)) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
    ∗ (pt c I0 (V m c main_v0) ∗ pt c I1 (V m c main_arg1) ∗ pt c I2 (V m c main_arg2) ∗ pt c I3 (V m c main_v1) ∗ pt c I4 (V m c main_v2)) ∗ ((∃ f, pt c O0 f) ∗ (∃ f, pt c O1 f) ∗ (∃ f, pt c O2 f) ∗ (∃ f, pt c O3 f) ∗ (∃ f, pt c O4 f)))
/-- After the body: the same, with `E` of the results. -/
def stop (E : Dev nD → sProp 𝕄) (c : Dev nD) : sProp 𝕄 :=
  iprop(((∃ f, pt c X0 f) ∗ (∃ f, pt c X1 f) ∗ (∃ f, pt c X2 f) ∗ (∃ f, pt c X3 f) ∗ (∃ f, pt c X4 f) ∗ (∃ f, pt c X5 f) ∗ (∃ f, pt c X6 f) ∗ (∃ f, pt c X7 f) ∗ (∃ f, pt c X8 f) ∗ (∃ f, pt c X9 f) ∗ (∃ f, pt c X10 f)) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
    ∗ (pt c I0 (V m c main_v0) ∗ pt c I1 (V m c main_arg1) ∗ pt c I2 (V m c main_arg2) ∗ pt c I3 (V m c main_v1) ∗ pt c I4 (V m c main_v2)) ∗ E c)

/-- `E` follows from the results at what the run leaves there, whatever the results and the scratch buffers held before. -/
def Follows (E : Dev nD → sProp 𝕄) : Prop :=
  ∀ (c : Dev nD) (o0 : Bf (F := F) c O0) (o1 : Bf (F := F) c O1) (o2 : Bf (F := F) c O2) (o3 : Bf (F := F) c O3) (o4 : Bf (F := F) c O4)
    (s0 : Bf (F := F) c X0) (s1 : Bf (F := F) c X1) (s2 : Bf (F := F) c X2) (s3 : Bf (F := F) c X3) (s4 : Bf (F := F) c X4) (s5 : Bf (F := F) c X5) (s6 : Bf (F := F) c X6) (s7 : Bf (F := F) c X7) (s8 : Bf (F := F) c X8) (s9 : Bf (F := F) c X9) (s10 : Bf (F := F) c X10),
    iprop(pt c O0 (kernelRun c (V m c main_v0) (V m c main_arg1) (V m c main_arg2) (V m c main_v1) (V m c main_v2) o0 o1 o2 o3 o4 s0 s1 s2 s3 s4 s5 s6 s7 s8 s9 s10).1.1 ∗ pt c O1 (kernelRun c (V m c main_v0) (V m c main_arg1) (V m c main_arg2) (V m c main_v1) (V m c main_v2) o0 o1 o2 o3 o4 s0 s1 s2 s3 s4 s5 s6 s7 s8 s9 s10).1.2.1 ∗ pt c O2 (kernelRun c (V m c main_v0) (V m c main_arg1) (V m c main_arg2) (V m c main_v1) (V m c main_v2) o0 o1 o2 o3 o4 s0 s1 s2 s3 s4 s5 s6 s7 s8 s9 s10).1.2.2.1 ∗ pt c O3 (kernelRun c (V m c main_v0) (V m c main_arg1) (V m c main_arg2) (V m c main_v1) (V m c main_v2) o0 o1 o2 o3 o4 s0 s1 s2 s3 s4 s5 s6 s7 s8 s9 s10).1.2.2.2.1 ∗ pt c O4 (kernelRun c (V m c main_v0) (V m c main_arg1) (V m c main_arg2) (V m c main_v1) (V m c main_v2) o0 o1 o2 o3 o4 s0 s1 s2 s3 s4 s5 s6 s7 s8 s9 s10).1.2.2.2.2) ⊢ E c

/-- The proof data of the region: no array is staged; the invariant is `start` before the body, `stop E` after it, beside a
    proposition `P` that the body does not touch. -/
def dats (P E : Dev nD → sProp 𝕄) (_ : Fin 1) (c : Dev nD) : Dat τ (Elt F) Unit ℕ (Pipeline.UD sig nD τ) ℕ cfg0 c where
  A w := w.elim0
  after w _ := w.elim0
  Φ t := if t.val = 0 then iprop(P c ∗ start m c) else iprop(P c ∗ stop m E c)
  q _ := fullShare
  owed _ := 0

theorem sound_body (P E : Dev nD → sProp 𝕄) (hE : Follows m E) (c : Dev nD) (t : Fin cfg0.N) :
    iprop((dats m P E 0 c).Φ t.castSucc ∗ (dats m P E 0 c).owesAt () t.castSucc ∗ emp)
      ⊢ wp frame (wpE (defs₀ (F := F)) Variants.none c none) Set.univ (bodyAt0 t)
        (fun _ => iprop((dats m P E 0 c).Φ t.succ ∗ (dats m P E 0 c).owesAt () t.succ ∗ emp)) := by
  obtain rfl : t = t0_0 := Subsingleton.elim (α := Fin 1) _ _
  rw [show (dats m P E 0 c).Φ t0_0.castSucc = iprop(P c ∗ start m c) from rfl,
    show (dats m P E 0 c).Φ t0_0.succ = iprop(P c ∗ stop m E c) from rfl]
  unfold bodyAt0 start stop
  unfold Dat.owesAt Pipeline.owesWithin
  rw [show (dats m P E 0 c).owed t0_0.castSucc = 0 from rfl, show (dats m P E 0 c).owed t0_0.succ = 0 from rfl]
  iintro ⟨⟨HP, ⟨⟨%s0, HX0⟩, ⟨%s1, HX1⟩, ⟨%s2, HX2⟩, ⟨%s3, HX3⟩, ⟨%s4, HX4⟩, ⟨%s5, HX5⟩, ⟨%s6, HX6⟩, ⟨%s7, HX7⟩, ⟨%s8, HX8⟩, ⟨%s9, HX9⟩, ⟨%s10, HX10⟩⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28⟩, ⟨HI0, HI1, HI2, HI3, HI4⟩,
    ⟨⟨%o0, HO0⟩, ⟨%o1, HO1⟩, ⟨%o2, HO2⟩, ⟨%o3, HO3⟩, ⟨%o4, HO4⟩⟩⟩, ⟨%W, -, HW⟩, He⟩
  iapply ((kernelRun c (V m c main_v0) (V m c main_arg1) (V m c main_arg2) (V m c main_v1) (V m c main_v2) o0 o1 o2 o3 o4 s0 s1 s2 s3 s4 s5 s6 s7 s8 s9 s10).2 W _)
  isplitl [HI0]; · iexact HI0
  isplitl [HI1]; · iexact HI1
  isplitl [HI2]; · iexact HI2
  isplitl [HI3]; · iexact HI3
  isplitl [HI4]; · iexact HI4
  isplitl [HO0]; · iexact HO0
  isplitl [HO1]; · iexact HO1
  isplitl [HO2]; · iexact HO2
  isplitl [HO3]; · iexact HO3
  isplitl [HO4]; · iexact HO4
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [HX8]; · iexact HX8
  isplitl [HX9]; · iexact HX9
  isplitl [HX10]; · iexact HX10
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [HW]; · iexact HW
  iintro ⟨HI0, HI1, HI2, HI3, HI4, HO0, HO1, HO2, HO3, HO4, HX0, HX1, HX2, HX3, HX4, HX5, HX6, HX7, HX8, HX9, HX10, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, ⟨%W', HW'⟩⟩
  isplitl [HP HI0 HI1 HI2 HI3 HI4 HO0 HO1 HO2 HO3 HO4 HX0 HX1 HX2 HX3 HX4 HX5 HX6 HX7 HX8 HX9 HX10 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28]
  · isplitl [HP]; · iexact HP
    isplitl [HX0 HX1 HX2 HX3 HX4 HX5 HX6 HX7 HX8 HX9 HX10]
    · isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      isplitl [HX7]; · iexact HX7
      isplitl [HX8]; · iexact HX8
      isplitl [HX9]; · iexact HX9
      iexact HX10
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      iexact Hq28
    isplitl [HI0 HI1 HI2 HI3 HI4]
    · isplitl [HI0]; · iexact HI0
      isplitl [HI1]; · iexact HI1
      isplitl [HI2]; · iexact HI2
      isplitl [HI3]; · iexact HI3
      iexact HI4
    iapply (hE c o0 o1 o2 o3 o4 s0 s1 s2 s3 s4 s5 s6 s7 s8 s9 s10)
    isplitl [HO0]; · iexact HO0
    isplitl [HO1]; · iexact HO1
    isplitl [HO2]; · iexact HO2
    isplitl [HO3]; · iexact HO3
    iexact HO4
  isplitl [HW']
  · iexists W'; isplitr; · ipureintro; exact fun _ _ => Or.inl trivial
    iexact HW'
  iexact He

theorem defs₀_row (t : Fin cfg0.N) :
    defs₀ (F := F) .tc cfg0.body (cfg0.bodyArgs t (cfg0.slots t)) = bodyAt0 t := by
  unfold defs₀; rw [Defs.onTc_tc]

theorem body_obligation (P E : Dev nD → sProp 𝕄) (hE : Follows m E) (c : Dev nD) :
    BodyObligation (dats (F := F) m P E 0 c) (defs₀ (F := F)) Variants.none () Set.univ := fun t => by
  rw [show (Finset.univ : Finset (Fin cfg0.W)) = ∅ from rfl, bigSep_empty, bigSep_empty, defs₀_row]
  exact triple_restated (sound_body m P E hE c t) rfl .rfl fun _ => .rfl

/-! ## The program around the region -/

/-- The program is the host lines before the region, the region, the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The frame: the results forgotten -/

theorem follows_owned : Follows m (fun c => (Pipeline.owned R0 c : sProp 𝕄)) := by
  intro c o0 o1 o2 o3 o4 s0 s1 s2 s3 s4 s5 s6 s7 s8 s9 s10
  beta_reduce
  rw [ownedPts0_eq]
  iintro ⟨HO0, HO1, HO2, HO3, HO4⟩
  isplitl [HO0]; · iexists _; iexact HO0
  isplitl [HO1]; · iexists _; iexact HO1
  isplitl [HO2]; · iexists _; iexact HO2
  isplitl [HO3]; · iexists _; iexact HO3
  iexists _; iexact HO4

/-- The generator's register, which the launch hands to the body and the body does not read. -/
abbrev Preg (c : Dev nD) : sProp 𝕄 := iprop(∃ r, prngReg c r)

theorem PhiDR0_eq (c : Dev nD) :
    (Pipeline.ΦDR osem0 spec0 H0 R0 (V m) c : sProp 𝕄)
      = iprop(((∃ f, pt c X0 f) ∗ (∃ f, pt c X1 f) ∗ (∃ f, pt c X2 f) ∗ (∃ f, pt c X3 f) ∗ (∃ f, pt c X4 f) ∗ (∃ f, pt c X5 f) ∗ (∃ f, pt c X6 f) ∗ (∃ f, pt c X7 f) ∗ (∃ f, pt c X8 f) ∗ (∃ f, pt c X9 f) ∗ (∃ f, pt c X10 f))
          ∗ (∃ r, prngReg c r)
          ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
          ∗ (pt c I0 (V m c main_v0) ∗ pt c I1 (V m c main_arg1) ∗ pt c I2 (V m c main_arg2) ∗ pt c I3 (V m c main_v1) ∗ pt c I4 (V m c main_v2))
          ∗ ((∃ f, pt c O0 f) ∗ (∃ f, pt c O1 f) ∗ (∃ f, pt c O2 f) ∗ (∃ f, pt c O3 f) ∗ (∃ f, pt c O4 f))) := by
  rw [Pipeline.ΦDR_eq, show (Pipeline.scopedRest spec0 c : sProp 𝕄) = Pipeline.scopedRest cfg0.spec c from rfl,
    scopedRest0_eq, ownSems00_eq, hbmPts0_eq, ownedPts0_eq]; try rfl

/-- The buffers that the host lines after the region write. -/
def T0 : Finset (Ref sig .tc) := {main_v4, main_v5}

theorem sfx_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, StableHlo.reshape_writes, Finset.mem_singleton] at hb
    have := Proc.devRef_injective .tc hb
    subst this
    decide

set_option backward.isDefEq.respectTransparency.types false in
theorem run_frame : θ_run defs (onTc (τ := τ) (main (F := F))) (s₀ m ρ)
    (fun r => Pipeline.FramePostR cfgs (dats m Preg (fun c => Pipeline.owned R0 c)) 0 (R0 ∪ T0) (V m) r ∧ r.2.sem = fun _ => 0) :=
  Pipeline.θ_run_frame_dmaR_around (Q' := _) cfgs (dats m Preg (fun c => Pipeline.owned R0 c)) (0 : Fin 1) launch0 osem0 defs₀ Variants.none
    ownSemFacts0 H0 R0 T0 H0_sub R0_sub m ρ main
    (hbody := fun c => (body_obligation m _ _ (follows_owned m) c).loose) (hshare := fun c => (dats m Preg _ 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := fun _ w => (show Fin 0 from w).elim0)
    (hin := fun c => by
      rw [show (dats m Preg (fun c => Pipeline.owned R0 c) 0 c).Φ 0 = iprop(Preg c ∗ start m c) from rfl]
      refine (show (Pipeline.ΦDR osem0 spec0 H0 R0 (V m) c : sProp 𝕄) ⊢ _ from ?_)
      rw [PhiDR0_eq]; unfold start
      iintro ⟨Hx, Hg, Hq, HI, HO⟩
      isplitl [Hg]; · iexact Hg
      isplitl [Hx]; · iexact Hx
      isplitl [Hq]; · iexact Hq
      isplitl [HI]; · iexact HI
      iexact HO)
    (hout := fun c => by
      rw [show (dats m Preg (fun c => Pipeline.owned R0 c) 0 c).Φ (Fin.last cfg0.N) = iprop(Preg c ∗ stop m (fun c => Pipeline.owned R0 c) c) from rfl]
      refine (show _ ⊢ (Pipeline.ΦDR osem0 spec0 H0 R0 (V m) c : sProp 𝕄) from ?_)
      rw [PhiDR0_eq]; unfold stop; beta_reduce; rw [ownedPts0_eq]
      iintro ⟨Hg, Hx, Hq, HI, HO⟩
      isplitl [Hx]; · iexact Hx
      isplitl [Hg]; · iexact Hg
      isplitl [Hq]; · iexact Hq
      isplitl [HI]; · iexact HI
      iexact HO)

/-- Every run of the program ends with its arguments as they started and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_frame m ρ)

/-! ## The run with the results kept -/

theorem PhiDRV0_eq (G : (c : Dev nD) → (b : Ref sig .tc) → Buf (Elt F) ((c.tc : Thread nD τ).loc b)) (c : Dev nD) :
    (Pipeline.ΦDRV osem0 spec0 H0 R0 (V m) G c : sProp 𝕄)
      = iprop(((∃ f, pt c X0 f) ∗ (∃ f, pt c X1 f) ∗ (∃ f, pt c X2 f) ∗ (∃ f, pt c X3 f) ∗ (∃ f, pt c X4 f) ∗ (∃ f, pt c X5 f) ∗ (∃ f, pt c X6 f) ∗ (∃ f, pt c X7 f) ∗ (∃ f, pt c X8 f) ∗ (∃ f, pt c X9 f) ∗ (∃ f, pt c X10 f))
          ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
          ∗ (pt c I0 (V m c main_v0) ∗ pt c I1 (V m c main_arg1) ∗ pt c I2 (V m c main_arg2) ∗ pt c I3 (V m c main_v1) ∗ pt c I4 (V m c main_v2))
          ∗ (bigSep R0 (fun b => ((c : Thread nD τ).loc b) ↦{fullShare} G c b))) := by
  rw [show (Pipeline.ΦDRV osem0 spec0 H0 R0 (V m) G c : sProp 𝕄)
      = iprop(Pipeline.scopedRest cfg0.spec c ∗ Pipeline.ownSems0 osem0 c
        ∗ (bigSep H0 (fun b => ((c : Thread nD τ).loc b) ↦{fullShare} V m c b))
        ∗ (bigSep R0 (fun b => ((c : Thread nD τ).loc b) ↦{fullShare} G c b))) from rfl,
    scopedRest0_eq, ownSems00_eq, hbmPts0_eq]; try rfl

set_option backward.isDefEq.respectTransparency.types false in
/-- If the run leaves `G` in the results whatever the results and the scratch buffers held before, then the program ends
    with every buffer outside the region at what the host lines after the region make of the region's entry with the
    results at `G`, and with every semaphore at zero. -/
theorem run_results (G : (c : Dev nD) → (b : Ref sig .tc) → Buf (Elt F) ((c.tc : Thread nD τ).loc b))
    (hG : ∀ (c : Dev nD) (o0 : Bf (F := F) c O0) (o1 : Bf (F := F) c O1) (o2 : Bf (F := F) c O2) (o3 : Bf (F := F) c O3) (o4 : Bf (F := F) c O4)
      (s0 : Bf (F := F) c X0) (s1 : Bf (F := F) c X1) (s2 : Bf (F := F) c X2) (s3 : Bf (F := F) c X3) (s4 : Bf (F := F) c X4) (s5 : Bf (F := F) c X5) (s6 : Bf (F := F) c X6) (s7 : Bf (F := F) c X7) (s8 : Bf (F := F) c X8) (s9 : Bf (F := F) c X9) (s10 : Bf (F := F) c X10),
      (kernelRun c (V m c main_v0) (V m c main_arg1) (V m c main_arg2) (V m c main_v1) (V m c main_v2) o0 o1 o2 o3 o4 s0 s1 s2 s3 s4 s5 s6 s7 s8 s9 s10).1 = (G c main_v3_0, G c main_v3_1, G c main_v3_2, G c main_v3_3, G c main_v3_4)) :
    θ_run defs (onTc (τ := τ) (main (F := F))) (s₀ m ρ) (fun r => (∀ c : Dev nD,
      ∀ b ∈ Pipeline.restRefs sig cfg0.spec, r.2.mem ((c.tc : Thread nD τ).loc b)
          = StableHlo.after ([hostOps1] : List (List (HloOp τ sig (Elt F)))).flatten (Pipeline.withArrays cfg0.spec c (Pipeline.withR (V0 m c) R0 c (G c))
              fun w => w.elim0) (Proc.devRef .tc b))
      ∧ r.2.sem = fun _ => 0) :=
  have hE : Follows m (fun c => (bigSep R0 (fun b => ((c : Thread nD τ).loc b) ↦{fullShare} G c b) : sProp 𝕄)) := by
    intro c o0 o1 o2 o3 o4 s0 s1 s2 s3 s4 s5 s6 s7 s8 s9 s10
    beta_reduce
    rw [resPts0_eq, hG c o0 o1 o2 o3 o4 s0 s1 s2 s3 s4 s5 s6 s7 s8 s9 s10]
  Pipeline.θ_run_frame_dmaR_aroundV (Q' := _) cfgs (dats m (fun _ => iprop(emp)) (fun c => bigSep R0 (fun b => ((c : Thread nD τ).loc b) ↦{fullShare} G c b)))
    (0 : Fin 1) launch0 osem0 defs₀ Variants.none ownSemFacts0 H0 R0 H0_sub R0_sub m ρ main
    (hbody := fun c => (body_obligation m _ _ hE c).loose) (hshare := fun c => (dats m _ _ 0 c).share_full fun _ => rfl)
    (howed := fun _ _ => rfl) (V₀ := V0 m) (opss := [hostOps1]) (hsub := sfx_sub) (hfresh := sfx_fresh) (hkeep := sfx_keeps)
    (G := G) (hmain := hmain m Variants.none) (hA := fun _ w => (show Fin 0 from w).elim0)
    (hin := fun c => by
      refine (show (Pipeline.ΦDRV osem0 spec0 H0 R0 (V m) (V m) c : sProp 𝕄) ⊢ iprop(emp ∗ start m c) from ?_)
      rw [PhiDRV0_eq, resPts0_eq]; unfold start
      iintro ⟨Hx, Hq, HI, HO0, HO1, HO2, HO3, HO4⟩
      isplitr; · iempintro
      isplitl [Hx]; · iexact Hx
      isplitl [Hq]; · iexact Hq
      isplitl [HI]; · iexact HI
      isplitl [HO0]; · iexists _; iexact HO0
      isplitl [HO1]; · iexists _; iexact HO1
      isplitl [HO2]; · iexists _; iexact HO2
      isplitl [HO3]; · iexists _; iexact HO3
      iexists _; iexact HO4)
    (hout := fun c => by
      refine (show iprop(emp ∗ stop m (fun c => bigSep R0 (fun b => ((c : Thread nD τ).loc b) ↦{fullShare} G c b)) c)
        ⊢ (Pipeline.ΦDRV osem0 spec0 H0 R0 (V m) G c : sProp 𝕄) from ?_)
      rw [PhiDRV0_eq]; unfold stop
      iintro ⟨-, Hx, Hq, HI, HO⟩
      isplitl [Hx]; · iexact Hx
      isplitl [Hq]; · iexact Hq
      isplitl [HI]; · iexact HI
      iexact HO)
    (hQ' := fun r h => ⟨fun c b hb => ((h.1 c).2 b hb).trans (by congr 2; funext w; exact w.elim0), h.2⟩)

end Cert.Kernel.Hand

end
-- ==== Proof.KIBody.lean ====
/-
  The kernel's body, run once. The kernel is one region without a grid: its five operands and five results stay in HBM, and
  its own copies bring the operands into scratch buffers and carry the results out. `kernelRun` is that run: from the
  operands held whole at given contents, the results and the scratch buffers held whole at anything, and each of the
  twenty-nine copy semaphores at zero, the body returns with the operands unchanged, the semaphores at zero, and the five
  results at contents that are terms over what the buffers held.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameSuffixV
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body's operands: the five arrays read in HBM, the five results in HBM, the eleven scratch buffers -/

abbrev I0 : Memref sig .tc .hbm S1792x16384 .fp8e4m3 := Memref.whole main_v0
abbrev I1 : Memref sig .tc .hbm S2x896 .f32 := Memref.whole main_arg1
abbrev I2 : Memref sig .tc .hbm S96x16384 .i8 := Memref.whole main_arg2
abbrev I3 : Memref sig .tc .hbm S1x96 .f32 := Memref.whole main_v1
abbrev I4 : Memref sig .tc .hbm S2x4x896 .i32 := Memref.whole main_v2
abbrev O0 : Memref sig .tc .hbm S2x896 .f32 := Memref.whole main_v3_0
abbrev O1 : Memref sig .tc .hbm S2x896 .f32 := Memref.whole main_v3_1
abbrev O2 : Memref sig .tc .hbm S1x96 .f32 := Memref.whole main_v3_2
abbrev O3 : Memref sig .tc .hbm S2x896 .f32 := Memref.whole main_v3_3
abbrev O4 : Memref sig .tc .hbm S2x96x896 .f32 := Memref.whole main_v3_4
abbrev X0 : Memref sig .tc .vmem S1792x16384 .fp8e4m3 := Memref.whole cc0_scratch0
abbrev X1 : Memref sig .tc .vmem S2x896 .f32 := Memref.whole cc0_scratch1
abbrev X2 : Memref sig .tc .vmem S96x16384 .i8 := Memref.whole cc0_scratch2
abbrev X3 : Memref sig .tc .vmem S96x16384 .bf16 := Memref.whole cc0_scratch3
abbrev X4 : Memref sig .tc .vmem S1x96 .f32 := Memref.whole cc0_scratch4
abbrev X5 : Memref sig .tc .vmem S2x4x896 .i32 := Memref.whole cc0_scratch5
abbrev X6 : Memref sig .tc .vmem S2x896 .f32 := Memref.whole cc0_scratch6
abbrev X7 : Memref sig .tc .vmem S2x896 .f32 := Memref.whole cc0_scratch7
abbrev X8 : Memref sig .tc .vmem S1x96 .f32 := Memref.whole cc0_scratch8
abbrev X9 : Memref sig .tc .vmem S2x896 .f32 := Memref.whole cc0_scratch9
abbrev X10 : Memref sig .tc .vmem S14x96x128 .f32 := Memref.whole cc0_scratch10

/-- What the body leaves in the five results (over what the buffers held), WITH the proof of the run. -/
noncomputable def kernelRun (c : Dev nD)
    (f0 : Bf (F := F) c I0) (f1 : Bf (F := F) c I1) (f2 : Bf (F := F) c I2) (f3 : Bf (F := F) c I3) (f4 : Bf (F := F) c I4)
    (o0 : Bf (F := F) c O0) (o1 : Bf (F := F) c O1) (o2 : Bf (F := F) c O2) (o3 : Bf (F := F) c O3) (o4 : Bf (F := F) c O4)
    (s0 : Bf (F := F) c X0) (s1 : Bf (F := F) c X1) (s2 : Bf (F := F) c X2) (s3 : Bf (F := F) c X3) (s4 : Bf (F := F) c X4) (s5 : Bf (F := F) c X5) (s6 : Bf (F := F) c X6) (s7 : Bf (F := F) c X7) (s8 : Bf (F := F) c X8) (s9 : Bf (F := F) c X9) (s10 : Bf (F := F) c X10) :
    { G : Bf (F := F) c O0 × Bf (F := F) c O1 × Bf (F := F) c O2 × Bf (F := F) c O3 × Bf (F := F) c O4 //
      ∀ (W : Waits sig Unit) (K : PUnit → sProp 𝕄),
        iprop(pt c I0 f0 ∗ pt c I1 f1 ∗ pt c I2 f2 ∗ pt c I3 f3 ∗ pt c I4 f4
          ∗ pt c O0 o0 ∗ pt c O1 o1 ∗ pt c O2 o2 ∗ pt c O3 o3 ∗ pt c O4 o4
          ∗ pt c X0 s0 ∗ pt c X1 s1 ∗ pt c X2 s2 ∗ pt c X3 s3 ∗ pt c X4 s4 ∗ pt c X5 s5 ∗ pt c X6 s6 ∗ pt c X7 s7 ∗ pt c X8 s8 ∗ pt c X9 s9 ∗ pt c X10 s10
          ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0
          ∗ owes (c : Thread nD τ) 0 W
          ∗ (iprop(pt c I0 f0 ∗ pt c I1 f1 ∗ pt c I2 f2 ∗ pt c I3 f3 ∗ pt c I4 f4
              ∗ pt c O0 G.1 ∗ pt c O1 G.2.1 ∗ pt c O2 G.2.2.1 ∗ pt c O3 G.2.2.2.1 ∗ pt c O4 G.2.2.2.2
              ∗ (∃ s, pt c X0 s) ∗ (∃ s, pt c X1 s) ∗ (∃ s, pt c X2 s) ∗ (∃ s, pt c X3 s) ∗ (∃ s, pt c X4 s) ∗ (∃ s, pt c X5 s) ∗ (∃ s, pt c X6 s) ∗ (∃ s, pt c X7 s) ∗ (∃ s, pt c X8 s) ∗ (∃ s, pt c X9 s) ∗ (∃ s, pt c X10 s)
              ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0
              ∗ (∃ W', owes (c : Thread nD τ) 0 W')) -∗ K ⟨⟩))
        ⊢ wp frame (wpE (defs₀ (F := F)) Variants.none c none) Set.univ
            (cc0_moe_router_losses I0 (Memref.isWhole_whole _) I1 (Memref.isWhole_whole _) I2 (Memref.isWhole_whole _) I3 (Memref.isWhole_whole _) I4 (Memref.isWhole_whole _) O0 (Memref.isWhole_whole _) O1 (Memref.isWhole_whole _) O2 (Memref.isWhole_whole _) O3 (Memref.isWhole_whole _) O4 (Memref.isWhole_whole _) X0 (Memref.isWhole_whole _) X1 (Memref.isWhole_whole _) X2 (Memref.isWhole_whole _) X3 (Memref.isWhole_whole _) X4 (Memref.isWhole_whole _) X5 (Memref.isWhole_whole _) X6 (Memref.isWhole_whole _) X7 (Memref.isWhole_whole _) X8 (Memref.isWhole_whole _) X9 (Memref.isWhole_whole _) X10 (Memref.isWhole_whole _)
              cc0_scratch11 cc0_scratch12 cc0_scratch13 cc0_scratch14 cc0_scratch15) K } := by
  refine ⟨⟨?_, ?_, ?_, ?_, ?_⟩, fun W K => ?run⟩
  case run =>
    iintro ⟨HI0, HI1, HI2, HI3, HI4, HO0, HO1, HO2, HO3, HO4, HX0, HX1, HX2, HX3, HX4, HX5, HX6, HX7, HX8, HX9, HX10,
      Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, HW, Hk⟩
    set_option sl_exec.dmaWindow true in
    sl_exec_parts!
    sl_step
    iapply Hk
    isplitl [HI0]; · iexact HI0
    isplitl [HI1]; · iexact HI1
    isplitl [HI2]; · iexact HI2
    isplitl [HI3]; · iexact HI3
    isplitl [HI4]; · iexact HI4
    isplitl [HO0]; · iexact HO0
    isplitl [HO1]; · iexact HO1
    isplitl [HO2]; · iexact HO2
    isplitl [HO3]; · iexact HO3
    isplitl [HO4]; · iexact HO4
    isplitl [HX0]; · iexists _; iexact HX0
    isplitl [HX1]; · iexists _; iexact HX1
    isplitl [HX2]; · iexists _; iexact HX2
    isplitl [HX3]; · iexists _; iexact HX3
    isplitl [HX4]; · iexists _; iexact HX4
    isplitl [HX5]; · iexists _; iexact HX5
    isplitl [HX6]; · iexists _; iexact HX6
    isplitl [HX7]; · iexists _; iexact HX7
    isplitl [HX8]; · iexists _; iexact HX8
    isplitl [HX9]; · iexists _; iexact HX9
    isplitl [HX10]; · iexists _; iexact HX10
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    iexists _; iexact HW

end Cert.KernelIdeal.Hand

end
-- ==== Proof.KIFrame.lean ====
/-
  The launch around the kernel's one run. The region's invariant is, before the body, the operands at what the host lines
  before the region left in them, the results and the scratch buffers at anything and the copy semaphores at zero; after
  the body, the same with the results at whatever the body's run leaves there, or anything that follows from it (`E`).
  Two launches are read off it: `frame`, where the results are forgotten — the arguments end as they started and every
  semaphore ends at zero —, and `run_results`, where they are kept.
-/
module

public import proofs.«01_k».proof.Proof.KIBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The operands, the results and the semaphores, listed -/

/-- The operands that the body's copies read. -/
def H0 : Finset (Ref sig .tc) := {main_v0, main_arg1, main_arg2, main_v1, main_v2}
/-- The results that the body's copies write. -/
def R0 : Finset (Ref sig .tc) := {main_v3_0, main_v3_1, main_v3_2, main_v3_3, main_v3_4}
theorem H0_sub : H0 ⊆ Pipeline.restRefs sig spec0 := by decide
theorem R0_sub : R0 ⊆ Pipeline.restRefs sig spec0 \ H0 := by decide

/-- The body's twenty-nine copy semaphores. -/
abbrev osem0 : Fin 29 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28] : Fin 29 → SemLoc sig) j
theorem ownSemFacts0 : Pipeline.OwnSemFacts (cfgs (0 : Fin 1)).spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) := by
  rw [Pipeline.ownSems0_eq_of_list c osem0 [0, 1, 2, 3, 4, 5, 6, 7, 8, 9, 10, 11, 12, 13, 14, 15, 16, 17, 18, 19, 20, 21, 22, 23, 24, 25, 26, 27, 28] (by decide) (by decide)]; rfl
theorem hbmPts0_eq (c : Dev nD) :
    (bigSep H0 (fun b => ((c : Thread nD τ).loc b) ↦{fullShare} V m c b) : sProp 𝕄)
      = iprop(pt c I0 (V m c main_v0) ∗ pt c I1 (V m c main_arg1) ∗ pt c I2 (V m c main_arg2) ∗ pt c I3 (V m c main_v1) ∗ pt c I4 (V m c main_v2)) := by
  rw [BI.bigSep_eq_bigSepL_of_eq [main_v0, main_arg1, main_arg2, main_v1, main_v2] (by decide) (by decide)]; rfl
theorem ownedPts0_eq (c : Dev nD) :
    (Pipeline.owned R0 c : sProp 𝕄) = iprop((∃ f, pt c O0 f) ∗ (∃ f, pt c O1 f) ∗ (∃ f, pt c O2 f) ∗ (∃ f, pt c O3 f) ∗ (∃ f, pt c O4 f)) := by
  unfold Pipeline.owned; rw [BI.bigSep_eq_bigSepL_of_eq [main_v3_0, main_v3_1, main_v3_2, main_v3_3, main_v3_4] (by decide) (by decide)]; rfl
theorem resPts0_eq (G : (c : Dev nD) → (b : Ref sig .tc) → Buf (Elt F) ((c.tc : Thread nD τ).loc b)) (c : Dev nD) :
    (bigSep R0 (fun b => ((c : Thread nD τ).loc b) ↦{fullShare} G c b) : sProp 𝕄)
      = iprop(pt c O0 (G c main_v3_0) ∗ pt c O1 (G c main_v3_1) ∗ pt c O2 (G c main_v3_2) ∗ pt c O3 (G c main_v3_3) ∗ pt c O4 (G c main_v3_4)) := by
  rw [BI.bigSep_eq_bigSepL_of_eq [main_v3_0, main_v3_1, main_v3_2, main_v3_3, main_v3_4] (by decide) (by decide)]; rfl

/-! ## The invariant and the body -/

/-- Before the body: the scratch buffers and the results at anything, the semaphores at zero, the operands as entered. -/
def start (c : Dev nD) : sProp 𝕄 :=
  iprop(((∃ f, pt c X0 f) ∗ (∃ f, pt c X1 f) ∗ (∃ f, pt c X2 f) ∗ (∃ f, pt c X3 f) ∗ (∃ f, pt c X4 f) ∗ (∃ f, pt c X5 f) ∗ (∃ f, pt c X6 f) ∗ (∃ f, pt c X7 f) ∗ (∃ f, pt c X8 f) ∗ (∃ f, pt c X9 f) ∗ (∃ f, pt c X10 f)) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
    ∗ (pt c I0 (V m c main_v0) ∗ pt c I1 (V m c main_arg1) ∗ pt c I2 (V m c main_arg2) ∗ pt c I3 (V m c main_v1) ∗ pt c I4 (V m c main_v2)) ∗ ((∃ f, pt c O0 f) ∗ (∃ f, pt c O1 f) ∗ (∃ f, pt c O2 f) ∗ (∃ f, pt c O3 f) ∗ (∃ f, pt c O4 f)))
/-- After the body: the same, with `E` of the results. -/
def stop (E : Dev nD → sProp 𝕄) (c : Dev nD) : sProp 𝕄 :=
  iprop(((∃ f, pt c X0 f) ∗ (∃ f, pt c X1 f) ∗ (∃ f, pt c X2 f) ∗ (∃ f, pt c X3 f) ∗ (∃ f, pt c X4 f) ∗ (∃ f, pt c X5 f) ∗ (∃ f, pt c X6 f) ∗ (∃ f, pt c X7 f) ∗ (∃ f, pt c X8 f) ∗ (∃ f, pt c X9 f) ∗ (∃ f, pt c X10 f)) ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
    ∗ (pt c I0 (V m c main_v0) ∗ pt c I1 (V m c main_arg1) ∗ pt c I2 (V m c main_arg2) ∗ pt c I3 (V m c main_v1) ∗ pt c I4 (V m c main_v2)) ∗ E c)

/-- `E` follows from the results at what the run leaves there, whatever the results and the scratch buffers held before. -/
def Follows (E : Dev nD → sProp 𝕄) : Prop :=
  ∀ (c : Dev nD) (o0 : Bf (F := F) c O0) (o1 : Bf (F := F) c O1) (o2 : Bf (F := F) c O2) (o3 : Bf (F := F) c O3) (o4 : Bf (F := F) c O4)
    (s0 : Bf (F := F) c X0) (s1 : Bf (F := F) c X1) (s2 : Bf (F := F) c X2) (s3 : Bf (F := F) c X3) (s4 : Bf (F := F) c X4) (s5 : Bf (F := F) c X5) (s6 : Bf (F := F) c X6) (s7 : Bf (F := F) c X7) (s8 : Bf (F := F) c X8) (s9 : Bf (F := F) c X9) (s10 : Bf (F := F) c X10),
    iprop(pt c O0 (kernelRun c (V m c main_v0) (V m c main_arg1) (V m c main_arg2) (V m c main_v1) (V m c main_v2) o0 o1 o2 o3 o4 s0 s1 s2 s3 s4 s5 s6 s7 s8 s9 s10).1.1 ∗ pt c O1 (kernelRun c (V m c main_v0) (V m c main_arg1) (V m c main_arg2) (V m c main_v1) (V m c main_v2) o0 o1 o2 o3 o4 s0 s1 s2 s3 s4 s5 s6 s7 s8 s9 s10).1.2.1 ∗ pt c O2 (kernelRun c (V m c main_v0) (V m c main_arg1) (V m c main_arg2) (V m c main_v1) (V m c main_v2) o0 o1 o2 o3 o4 s0 s1 s2 s3 s4 s5 s6 s7 s8 s9 s10).1.2.2.1 ∗ pt c O3 (kernelRun c (V m c main_v0) (V m c main_arg1) (V m c main_arg2) (V m c main_v1) (V m c main_v2) o0 o1 o2 o3 o4 s0 s1 s2 s3 s4 s5 s6 s7 s8 s9 s10).1.2.2.2.1 ∗ pt c O4 (kernelRun c (V m c main_v0) (V m c main_arg1) (V m c main_arg2) (V m c main_v1) (V m c main_v2) o0 o1 o2 o3 o4 s0 s1 s2 s3 s4 s5 s6 s7 s8 s9 s10).1.2.2.2.2) ⊢ E c

/-- The proof data of the region: no array is staged; the invariant is `start` before the body, `stop E` after it, beside a
    proposition `P` that the body does not touch. -/
def dats (P E : Dev nD → sProp 𝕄) (_ : Fin 1) (c : Dev nD) : Dat τ (Elt F) Unit ℕ (Pipeline.UD sig nD τ) ℕ cfg0 c where
  A w := w.elim0
  after w _ := w.elim0
  Φ t := if t.val = 0 then iprop(P c ∗ start m c) else iprop(P c ∗ stop m E c)
  q _ := fullShare
  owed _ := 0

theorem sound_body (P E : Dev nD → sProp 𝕄) (hE : Follows m E) (c : Dev nD) (t : Fin cfg0.N) :
    iprop((dats m P E 0 c).Φ t.castSucc ∗ (dats m P E 0 c).owesAt () t.castSucc ∗ emp)
      ⊢ wp frame (wpE (defs₀ (F := F)) Variants.none c none) Set.univ (bodyAt0 t)
        (fun _ => iprop((dats m P E 0 c).Φ t.succ ∗ (dats m P E 0 c).owesAt () t.succ ∗ emp)) := by
  obtain rfl : t = t0_0 := Subsingleton.elim (α := Fin 1) _ _
  rw [show (dats m P E 0 c).Φ t0_0.castSucc = iprop(P c ∗ start m c) from rfl,
    show (dats m P E 0 c).Φ t0_0.succ = iprop(P c ∗ stop m E c) from rfl]
  unfold bodyAt0 start stop
  unfold Dat.owesAt Pipeline.owesWithin
  rw [show (dats m P E 0 c).owed t0_0.castSucc = 0 from rfl, show (dats m P E 0 c).owed t0_0.succ = 0 from rfl]
  iintro ⟨⟨HP, ⟨⟨%s0, HX0⟩, ⟨%s1, HX1⟩, ⟨%s2, HX2⟩, ⟨%s3, HX3⟩, ⟨%s4, HX4⟩, ⟨%s5, HX5⟩, ⟨%s6, HX6⟩, ⟨%s7, HX7⟩, ⟨%s8, HX8⟩, ⟨%s9, HX9⟩, ⟨%s10, HX10⟩⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28⟩, ⟨HI0, HI1, HI2, HI3, HI4⟩,
    ⟨⟨%o0, HO0⟩, ⟨%o1, HO1⟩, ⟨%o2, HO2⟩, ⟨%o3, HO3⟩, ⟨%o4, HO4⟩⟩⟩, ⟨%W, -, HW⟩, He⟩
  iapply ((kernelRun c (V m c main_v0) (V m c main_arg1) (V m c main_arg2) (V m c main_v1) (V m c main_v2) o0 o1 o2 o3 o4 s0 s1 s2 s3 s4 s5 s6 s7 s8 s9 s10).2 W _)
  isplitl [HI0]; · iexact HI0
  isplitl [HI1]; · iexact HI1
  isplitl [HI2]; · iexact HI2
  isplitl [HI3]; · iexact HI3
  isplitl [HI4]; · iexact HI4
  isplitl [HO0]; · iexact HO0
  isplitl [HO1]; · iexact HO1
  isplitl [HO2]; · iexact HO2
  isplitl [HO3]; · iexact HO3
  isplitl [HO4]; · iexact HO4
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [HX8]; · iexact HX8
  isplitl [HX9]; · iexact HX9
  isplitl [HX10]; · iexact HX10
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [HW]; · iexact HW
  iintro ⟨HI0, HI1, HI2, HI3, HI4, HO0, HO1, HO2, HO3, HO4, HX0, HX1, HX2, HX3, HX4, HX5, HX6, HX7, HX8, HX9, HX10, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, ⟨%W', HW'⟩⟩
  isplitl [HP HI0 HI1 HI2 HI3 HI4 HO0 HO1 HO2 HO3 HO4 HX0 HX1 HX2 HX3 HX4 HX5 HX6 HX7 HX8 HX9 HX10 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28]
  · isplitl [HP]; · iexact HP
    isplitl [HX0 HX1 HX2 HX3 HX4 HX5 HX6 HX7 HX8 HX9 HX10]
    · isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      isplitl [HX7]; · iexact HX7
      isplitl [HX8]; · iexact HX8
      isplitl [HX9]; · iexact HX9
      iexact HX10
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      iexact Hq28
    isplitl [HI0 HI1 HI2 HI3 HI4]
    · isplitl [HI0]; · iexact HI0
      isplitl [HI1]; · iexact HI1
      isplitl [HI2]; · iexact HI2
      isplitl [HI3]; · iexact HI3
      iexact HI4
    iapply (hE c o0 o1 o2 o3 o4 s0 s1 s2 s3 s4 s5 s6 s7 s8 s9 s10)
    isplitl [HO0]; · iexact HO0
    isplitl [HO1]; · iexact HO1
    isplitl [HO2]; · iexact HO2
    isplitl [HO3]; · iexact HO3
    iexact HO4
  isplitl [HW']
  · iexists W'; isplitr; · ipureintro; exact fun _ _ => Or.inl trivial
    iexact HW'
  iexact He

theorem defs₀_row (t : Fin cfg0.N) :
    defs₀ (F := F) .tc cfg0.body (cfg0.bodyArgs t (cfg0.slots t)) = bodyAt0 t := by
  unfold defs₀; rw [Defs.onTc_tc]

theorem body_obligation (P E : Dev nD → sProp 𝕄) (hE : Follows m E) (c : Dev nD) :
    BodyObligation (dats (F := F) m P E 0 c) (defs₀ (F := F)) Variants.none () Set.univ := fun t => by
  rw [show (Finset.univ : Finset (Fin cfg0.W)) = ∅ from rfl, bigSep_empty, bigSep_empty, defs₀_row]
  exact triple_restated (sound_body m P E hE c t) rfl .rfl fun _ => .rfl

/-! ## The program around the region -/

/-- The program is the host lines before the region, the region, the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The frame: the results forgotten -/

theorem follows_owned : Follows m (fun c => (Pipeline.owned R0 c : sProp 𝕄)) := by
  intro c o0 o1 o2 o3 o4 s0 s1 s2 s3 s4 s5 s6 s7 s8 s9 s10
  beta_reduce
  rw [ownedPts0_eq]
  iintro ⟨HO0, HO1, HO2, HO3, HO4⟩
  isplitl [HO0]; · iexists _; iexact HO0
  isplitl [HO1]; · iexists _; iexact HO1
  isplitl [HO2]; · iexists _; iexact HO2
  isplitl [HO3]; · iexists _; iexact HO3
  iexists _; iexact HO4

/-- The generator's register, which the launch hands to the body and the body does not read. -/
abbrev Preg (c : Dev nD) : sProp 𝕄 := iprop(∃ r, prngReg c r)

theorem PhiDR0_eq (c : Dev nD) :
    (Pipeline.ΦDR osem0 spec0 H0 R0 (V m) c : sProp 𝕄)
      = iprop(((∃ f, pt c X0 f) ∗ (∃ f, pt c X1 f) ∗ (∃ f, pt c X2 f) ∗ (∃ f, pt c X3 f) ∗ (∃ f, pt c X4 f) ∗ (∃ f, pt c X5 f) ∗ (∃ f, pt c X6 f) ∗ (∃ f, pt c X7 f) ∗ (∃ f, pt c X8 f) ∗ (∃ f, pt c X9 f) ∗ (∃ f, pt c X10 f))
          ∗ (∃ r, prngReg c r)
          ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
          ∗ (pt c I0 (V m c main_v0) ∗ pt c I1 (V m c main_arg1) ∗ pt c I2 (V m c main_arg2) ∗ pt c I3 (V m c main_v1) ∗ pt c I4 (V m c main_v2))
          ∗ ((∃ f, pt c O0 f) ∗ (∃ f, pt c O1 f) ∗ (∃ f, pt c O2 f) ∗ (∃ f, pt c O3 f) ∗ (∃ f, pt c O4 f))) := by
  rw [Pipeline.ΦDR_eq, show (Pipeline.scopedRest spec0 c : sProp 𝕄) = Pipeline.scopedRest cfg0.spec c from rfl,
    scopedRest0_eq, ownSems00_eq, hbmPts0_eq, ownedPts0_eq]; try rfl

/-- The buffers that the host lines after the region write. -/
def T0 : Finset (Ref sig .tc) := {main_v4, main_v5}

theorem sfx_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, StableHlo.reshape_writes, Finset.mem_singleton] at hb
    have := Proc.devRef_injective .tc hb
    subst this
    decide

set_option backward.isDefEq.respectTransparency.types false in
theorem run_frame : θ_run defs (onTc (τ := τ) (main (F := F))) (s₀ m ρ)
    (fun r => Pipeline.FramePostR cfgs (dats m Preg (fun c => Pipeline.owned R0 c)) 0 (R0 ∪ T0) (V m) r ∧ r.2.sem = fun _ => 0) :=
  Pipeline.θ_run_frame_dmaR_around (Q' := _) cfgs (dats m Preg (fun c => Pipeline.owned R0 c)) (0 : Fin 1) launch0 osem0 defs₀ Variants.none
    ownSemFacts0 H0 R0 T0 H0_sub R0_sub m ρ main
    (hbody := fun c => (body_obligation m _ _ (follows_owned m) c).loose) (hshare := fun c => (dats m Preg _ 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := fun _ w => (show Fin 0 from w).elim0)
    (hin := fun c => by
      rw [show (dats m Preg (fun c => Pipeline.owned R0 c) 0 c).Φ 0 = iprop(Preg c ∗ start m c) from rfl]
      refine (show (Pipeline.ΦDR osem0 spec0 H0 R0 (V m) c : sProp 𝕄) ⊢ _ from ?_)
      rw [PhiDR0_eq]; unfold start
      iintro ⟨Hx, Hg, Hq, HI, HO⟩
      isplitl [Hg]; · iexact Hg
      isplitl [Hx]; · iexact Hx
      isplitl [Hq]; · iexact Hq
      isplitl [HI]; · iexact HI
      iexact HO)
    (hout := fun c => by
      rw [show (dats m Preg (fun c => Pipeline.owned R0 c) 0 c).Φ (Fin.last cfg0.N) = iprop(Preg c ∗ stop m (fun c => Pipeline.owned R0 c) c) from rfl]
      refine (show _ ⊢ (Pipeline.ΦDR osem0 spec0 H0 R0 (V m) c : sProp 𝕄) from ?_)
      rw [PhiDR0_eq]; unfold stop; beta_reduce; rw [ownedPts0_eq]
      iintro ⟨Hg, Hx, Hq, HI, HO⟩
      isplitl [Hx]; · iexact Hx
      isplitl [Hg]; · iexact Hg
      isplitl [Hq]; · iexact Hq
      isplitl [HI]; · iexact HI
      iexact HO)

/-- Every run of the program ends with its arguments as they started and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_frame m ρ)

/-! ## The run with the results kept -/

theorem PhiDRV0_eq (G : (c : Dev nD) → (b : Ref sig .tc) → Buf (Elt F) ((c.tc : Thread nD τ).loc b)) (c : Dev nD) :
    (Pipeline.ΦDRV osem0 spec0 H0 R0 (V m) G c : sProp 𝕄)
      = iprop(((∃ f, pt c X0 f) ∗ (∃ f, pt c X1 f) ∗ (∃ f, pt c X2 f) ∗ (∃ f, pt c X3 f) ∗ (∃ f, pt c X4 f) ∗ (∃ f, pt c X5 f) ∗ (∃ f, pt c X6 f) ∗ (∃ f, pt c X7 f) ∗ (∃ f, pt c X8 f) ∗ (∃ f, pt c X9 f) ∗ (∃ f, pt c X10 f))
          ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
          ∗ (pt c I0 (V m c main_v0) ∗ pt c I1 (V m c main_arg1) ∗ pt c I2 (V m c main_arg2) ∗ pt c I3 (V m c main_v1) ∗ pt c I4 (V m c main_v2))
          ∗ (bigSep R0 (fun b => ((c : Thread nD τ).loc b) ↦{fullShare} G c b))) := by
  rw [show (Pipeline.ΦDRV osem0 spec0 H0 R0 (V m) G c : sProp 𝕄)
      = iprop(Pipeline.scopedRest cfg0.spec c ∗ Pipeline.ownSems0 osem0 c
        ∗ (bigSep H0 (fun b => ((c : Thread nD τ).loc b) ↦{fullShare} V m c b))
        ∗ (bigSep R0 (fun b => ((c : Thread nD τ).loc b) ↦{fullShare} G c b))) from rfl,
    scopedRest0_eq, ownSems00_eq, hbmPts0_eq]; try rfl

set_option backward.isDefEq.respectTransparency.types false in
/-- If the run leaves `G` in the results whatever the results and the scratch buffers held before, then the program ends
    with every buffer outside the region at what the host lines after the region make of the region's entry with the
    results at `G`, and with every semaphore at zero. -/
theorem run_results (G : (c : Dev nD) → (b : Ref sig .tc) → Buf (Elt F) ((c.tc : Thread nD τ).loc b))
    (hG : ∀ (c : Dev nD) (o0 : Bf (F := F) c O0) (o1 : Bf (F := F) c O1) (o2 : Bf (F := F) c O2) (o3 : Bf (F := F) c O3) (o4 : Bf (F := F) c O4)
      (s0 : Bf (F := F) c X0) (s1 : Bf (F := F) c X1) (s2 : Bf (F := F) c X2) (s3 : Bf (F := F) c X3) (s4 : Bf (F := F) c X4) (s5 : Bf (F := F) c X5) (s6 : Bf (F := F) c X6) (s7 : Bf (F := F) c X7) (s8 : Bf (F := F) c X8) (s9 : Bf (F := F) c X9) (s10 : Bf (F := F) c X10),
      (kernelRun c (V m c main_v0) (V m c main_arg1) (V m c main_arg2) (V m c main_v1) (V m c main_v2) o0 o1 o2 o3 o4 s0 s1 s2 s3 s4 s5 s6 s7 s8 s9 s10).1 = (G c main_v3_0, G c main_v3_1, G c main_v3_2, G c main_v3_3, G c main_v3_4)) :
    θ_run defs (onTc (τ := τ) (main (F := F))) (s₀ m ρ) (fun r => (∀ c : Dev nD,
      ∀ b ∈ Pipeline.restRefs sig cfg0.spec, r.2.mem ((c.tc : Thread nD τ).loc b)
          = StableHlo.after ([hostOps1] : List (List (HloOp τ sig (Elt F)))).flatten (Pipeline.withArrays cfg0.spec c (Pipeline.withR (V0 m c) R0 c (G c))
              fun w => w.elim0) (Proc.devRef .tc b))
      ∧ r.2.sem = fun _ => 0) :=
  have hE : Follows m (fun c => (bigSep R0 (fun b => ((c : Thread nD τ).loc b) ↦{fullShare} G c b) : sProp 𝕄)) := by
    intro c o0 o1 o2 o3 o4 s0 s1 s2 s3 s4 s5 s6 s7 s8 s9 s10
    beta_reduce
    rw [resPts0_eq, hG c o0 o1 o2 o3 o4 s0 s1 s2 s3 s4 s5 s6 s7 s8 s9 s10]
  Pipeline.θ_run_frame_dmaR_aroundV (Q' := _) cfgs (dats m (fun _ => iprop(emp)) (fun c => bigSep R0 (fun b => ((c : Thread nD τ).loc b) ↦{fullShare} G c b)))
    (0 : Fin 1) launch0 osem0 defs₀ Variants.none ownSemFacts0 H0 R0 H0_sub R0_sub m ρ main
    (hbody := fun c => (body_obligation m _ _ hE c).loose) (hshare := fun c => (dats m _ _ 0 c).share_full fun _ => rfl)
    (howed := fun _ _ => rfl) (V₀ := V0 m) (opss := [hostOps1]) (hsub := sfx_sub) (hfresh := sfx_fresh) (hkeep := sfx_keeps)
    (G := G) (hmain := hmain m Variants.none) (hA := fun _ w => (show Fin 0 from w).elim0)
    (hin := fun c => by
      refine (show (Pipeline.ΦDRV osem0 spec0 H0 R0 (V m) (V m) c : sProp 𝕄) ⊢ iprop(emp ∗ start m c) from ?_)
      rw [PhiDRV0_eq, resPts0_eq]; unfold start
      iintro ⟨Hx, Hq, HI, HO0, HO1, HO2, HO3, HO4⟩
      isplitr; · iempintro
      isplitl [Hx]; · iexact Hx
      isplitl [Hq]; · iexact Hq
      isplitl [HI]; · iexact HI
      isplitl [HO0]; · iexists _; iexact HO0
      isplitl [HO1]; · iexists _; iexact HO1
      isplitl [HO2]; · iexists _; iexact HO2
      isplitl [HO3]; · iexists _; iexact HO3
      iexists _; iexact HO4)
    (hout := fun c => by
      refine (show iprop(emp ∗ stop m (fun c => bigSep R0 (fun b => ((c : Thread nD τ).loc b) ↦{fullShare} G c b)) c)
        ⊢ (Pipeline.ΦDRV osem0 spec0 H0 R0 (V m) G c : sProp 𝕄) from ?_)
      rw [PhiDRV0_eq]; unfold stop
      iintro ⟨-, Hx, Hq, HI, HO⟩
      isplitl [Hx]; · iexact Hx
      isplitl [Hq]; · iexact Hq
      isplitl [HI]; · iexact HI
      iexact HO)
    (hQ' := fun r h => ⟨fun c b hb => ((h.1 c).2 b hb).trans (by congr 2; funext w; exact w.elim0), h.2⟩)

end Cert.KernelIdeal.Hand

end
-- ==== Proof.KIBlocks.lean ====
/-
  The body's stored values as families over the fourteen half blocks. Half block `j` is 128 consecutive tokens: batch row
  `j / 7`, tokens `128 * (j % 7)` onward; its activations are half `j % 2` of block `j / 2` of 256 rows. The body treats
  each half block alike, so every buffer it stores in piece by piece is a list over `j` of one function.
-/
module

public import proofs.«01_k».proof.Proof.KIFrame

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## One half block as a function of its scaled logits `z` (experts × tokens) and the load fractions `f` -/

/-- The largest logit of each token, or zero where it is not finite. -/
def maxB (z : FVec F S96x128 .f32) : FVec F S1x128 .f32 :=
  select (cmpf .olt (absf (shapeCast S1x128 (multiReduction .maximumf [0] S128 z 0xFF800000#32 reduces_S96x128_S128 (.inl rfl) rfl) shapeCasts_S128_S1x128))
      (broadcast S1x128 (Scalar.ofBits .f32 0x7F800000#32)))
    (shapeCast S1x128 (multiReduction .maximumf [0] S128 z 0xFF800000#32 reduces_S96x128_S128 (.inl rfl) rfl) shapeCasts_S128_S1x128)
    (broadcast S1x128 (Scalar.ofBits .f32 0x00000000#32))
/-- Each token's log-sum-exp. -/
def lseB (z : FVec F S96x128 .f32) : FVec F S1x128 .f32 :=
  addf (log (shapeCast S1x128 (multiReduction .add [0] S128 (exp (subf z (broadcastTo S96x128 (maxB z) broadcasts_S1x128_S96x128)))
    0x00000000#32 reduces_S96x128_S128 (.inl rfl) rfl) shapeCasts_S128_S1x128)) (maxB z)
/-- The routing probabilities. -/
def pB (z : FVec F S96x128 .f32) : FVec F S96x128 .f32 :=
  exp (subf z (broadcastTo S96x128 (lseB z) broadcasts_S1x128_S96x128))
/-- Each token's probabilities against the load fractions. -/
def gB (f : FVec F S96x1 .f32) (z : FVec F S96x128 .f32) : FVec F S1x128 .f32 :=
  shapeCast S1x128 (multiReduction .add [0] S128 (mulf (pB z) (broadcastTo S96x128 f broadcasts_S96x1_S96x128))
    0x00000000#32 reduces_S96x128_S128 (.inl rfl) rfl) shapeCasts_S128_S1x128
/-- The gradient in the logits. -/
def slabB (f : FVec F S96x1 .f32) (z : FVec F S96x128 .f32) : FVec F S96x128 .f32 :=
  mulf (pB z) (addf
    (mulf (broadcast S96x128 (Scalar.ofBits .f32 0x3A0C6F2D#32))
      (subf (broadcastTo S96x128 f broadcasts_S96x1_S96x128) (broadcastTo S96x128 (gB f z) broadcasts_S1x128_S96x128)))
    (broadcastTo S96x128 (mulf (broadcast S1x128 (Scalar.ofBits .f32 0x3595CBEC#32)) (lseB z)) broadcasts_S1x128_S96x128))
/-- The balance loss of each token. -/
def auxB (f : FVec F S96x1 .f32) (z : FVec F S96x128 .f32) : FVec F S1x128 .f32 :=
  mulf (broadcast S1x128 (Scalar.ofBits .f32 0x3A0C6F2D#32)) (gB f z)
/-- The z-loss term of each token. -/
def ztB (z : FVec F S96x128 .f32) : FVec F S1x128 .f32 :=
  mulf (broadcast S1x128 (Scalar.ofBits .f32 0x3515CBEC#32)) (mulf (lseB z) (lseB z))

/-! ## The half blocks' places -/

/-- The half blocks, the last first, as the lists of stores have them. -/
abbrev desc14 : List (Fin 14) := [13, 12, 11, 10, 9, 8, 7, 6, 5, 4, 3, 2, 1, 0]
/-- The half blocks in order. -/
abbrev asc14 : List (Fin 14) := [0, 1, 2, 3, 4, 5, 6, 7, 8, 9, 10, 11, 12, 13]

theorem row_inb (j : Fin 14) (a : Fin 2) : (![j.val / 7, 128 * (j.val % 7)] : Fin 2 → ℕ) a + S1x128.size a ≤ S2x896.size a :=
  (by decide : ∀ (j : Fin 14) (a : Fin 2), (![j.val / 7, 128 * (j.val % 7)] : Fin 2 → ℕ) a + S1x128.size a ≤ S2x896.size a) j a
theorem slab_inb (j : Fin 14) (a : Fin 3) : (![j.val, 0, 0] : Fin 3 → ℕ) a + S1x96x128.size a ≤ S14x96x128.size a :=
  (by decide : ∀ (j : Fin 14) (a : Fin 3), (![j.val, 0, 0] : Fin 3 → ℕ) a + S1x96x128.size a ≤ S14x96x128.size a) j a
theorem out_inb (j : Fin 14) (a : Fin 3) : (![j.val / 7, 0, 128 * (j.val % 7)] : Fin 3 → ℕ) a + S1x96x128.size a ≤ S2x96x896.size a :=
  (by decide : ∀ (j : Fin 14) (a : Fin 3), (![j.val / 7, 0, 128 * (j.val % 7)] : Fin 3 → ℕ) a + S1x96x128.size a ≤ S2x96x896.size a) j a
theorem half_slices (j : Fin 14) : S96x256.Slices ![0, 128 * (j.val % 2)] S96x128 :=
  (by decide : ∀ j : Fin 14, S96x256.Slices ![0, 128 * (j.val % 2)] S96x128) j
theorem xblk_inb (i : Fin 7) (a : Fin 2) : (![256 * i.val, 0] : Fin 2 → ℕ) a + S256x16384.size a ≤ S1792x16384.size a :=
  (by decide : ∀ (i : Fin 7) (a : Fin 2), (![256 * i.val, 0] : Fin 2 → ℕ) a + S256x16384.size a ≤ S1792x16384.size a) i a
theorem wblk_inb (i : Fin 8) (a : Fin 2) : (![0, 2048 * i.val] : Fin 2 → ℕ) a + S96x2048.size a ≤ S96x16384.size a :=
  (by decide : ∀ (i : Fin 8) (a : Fin 2), (![0, 2048 * i.val] : Fin 2 → ℕ) a + S96x2048.size a ≤ S96x16384.size a) i a

/-- Half block `j`'s tokens in a batch × token array. -/
abbrev rowR (j : Fin 14) : Rect S2x896 := Rect.unit ![j.val / 7, 128 * (j.val % 7)] S1x128.size (row_inb j)
/-- Half block `j`'s slab of the staged gradient. -/
abbrev slabR (j : Fin 14) : Rect S14x96x128 := Rect.unit ![j.val, 0, 0] S1x96x128.size (slab_inb j)
/-- Half block `j`'s tokens in the gradient. -/
abbrev outR (j : Fin 14) : Rect S2x96x896 := Rect.unit ![j.val / 7, 0, 128 * (j.val % 7)] S1x96x128.size (out_inb j)

/-- Block `i` of the activations' rows. -/
abbrev xR (i : Fin 7) : Rect S1792x16384 := Rect.unit ![256 * i.val, 0] S256x16384.size (xblk_inb i)
/-- Chunk `i` of the weights' columns. -/
abbrev wR (i : Fin 8) : Rect S96x16384 := Rect.unit ![0, 2048 * i.val] S96x2048.size (wblk_inb i)
/-- The weights whole. -/
abbrev wAllR : Rect S96x16384 := Rect.unit ![0, 0] S96x16384.size inb_S96x16384_S96x16384_0_0
/-- The weight scales whole. -/
abbrev wsR : Rect S1x96 := Rect.unit ![0, 0] S1x96.size inb_S1x96_S1x96_0_0

variable (c : Dev nD)
  (f0 : Bf (F := F) c I0) (f1 : Bf (F := F) c I1) (f2 : Bf (F := F) c I2) (f3 : Bf (F := F) c I3) (f4 : Bf (F := F) c I4)
  (s1 : Bf (F := F) c X1) (s2 : Bf (F := F) c X2) (s4 : Bf (F := F) c X4) (s5 : Bf (F := F) c X5)

/-! ## The operands as the body reads them -/

/-- Block `i` of the activations' rows, as copied. -/
def xIn (i : Fin 7) : Vec F S256x16384 .fp8e4m3 :=
  (ReadAs.same : ReadAs (Elt F) S256x16384 .fp8e4m3 S256x16384 .fp8e4m3).apply
    (View.read (Elt F) (I0.slice (xR i) (fun _ => rfl)).view f0)

/-- The activations' rows as they stand in the scratch buffer once all seven blocks are copied. -/
def xPieces : List (View.Piece (Elt F) S1792x16384 .fp8e4m3) :=
  ([6, 5, 4, 3, 2, 1, 0] : List (Fin 7)).map fun i => ⟨xR i, xIn c f0 i⟩
/-- Block `i` of the activations' rows, as loaded. -/
def xRd (i : Fin 7) : Vec F S256x16384 .fp8e4m3 :=
  View.readCov X0.view (xPieces c f0) (xR i).toLoadRect
/-- Chunk `i` of the weights' columns, converted. -/
def wIn (i : Fin 8) : FVec F S96x2048 .bf16 :=
  shapeCast S96x2048 (sitofp .bf16 (View.readAt (Elt F) X2.view (wR i).toLoadRect
    (View.write (Elt F) X2.view s2 (ReadAs.same.apply (View.read (Elt F) I2.view f2)) Finset.univ) : IVec S96x2048 8)) shapeCasts_S96x2048_S96x2048
/-- The converted weights, stored by chunks. -/
def wPieces : List (View.Piece (Elt F) S96x16384 .bf16) :=
  ([7, 6, 5, 4, 3, 2, 1, 0] : List (Fin 8)).map fun i => ⟨wR i, wIn c f2 s2 i⟩
/-- The converted weights, as loaded. -/
def wRd : Vec F S96x16384 .bf16 :=
  View.readCov X3.view (wPieces c f2 s2) wAllR.toLoadRect
/-- Half block `j`'s activation scales. -/
def xsRd (j : Fin 14) : Vec F S1x128 .f32 :=
  View.readAt (Elt F) X1.view (rowR j).toLoadRect (View.write (Elt F) X1.view s1 (ReadAs.same.apply (View.read (Elt F) I1.view f1)) Finset.univ)
/-- The weight scales, a column. -/
def wsCol : FVec F S96x1 .f32 :=
  k0_pay14 (View.readAt (Elt F) X4.view wsR.toLoadRect
    (View.write (Elt F) X4.view s4 (ReadAs.same.apply (View.read (Elt F) I3.view f3)) Finset.univ))
/-- The unscaled logits of block `i`. -/
def rawB (i : Fin 7) : FVec F S96x256 .f32 :=
  matmul dot_S96x16384_S256x16384_S96x256_1_1_0_0_n_n none (wRd c f2 s2) (xRd c f0 i) (constant S96x256 .f32 0x00000000#32)
/-- The block of 256 rows that half block `j` lies in. -/
def half (j : Fin 14) : Fin 7 := ⟨j.val / 2, by omega⟩
/-- The scaled logits of half block `j`. -/
def zB (j : Fin 14) : FVec F S96x128 .f32 :=
  mulf (mulf (extractStridedSlice S96x128 ![0, 128 * (j.val % 2)] (rawB c f0 f2 s2 (half j)) (half_slices j))
    (broadcastTo S96x128 (xsRd c f1 s1 j) broadcasts_S1x128_S96x128)) (broadcastTo S96x128 (wsCol c f3 s4) broadcasts_S96x1_S96x128)
/-- The summed probabilities, lane by lane. -/
def pAcc : FVec F S96x128 .f32 :=
  asc14.foldl (fun a j => addf a (pB (zB c f0 f1 f2 f3 s1 s2 s4 j))) (broadcast S96x128 (Scalar.ofBits .f32 0x00000000#32))

/-! ## How often each expert is chosen -/

theorem id_inb (n : ℕ) (a : Fin 3) : (![n / 28 % 2, n / 7 % 4, 128 * (n % 7)] : Fin 3 → ℕ) a + S1x1x128.size a ≤ S2x4x896.size a :=
  match a with
  | 0 => show n / 28 % 2 + 1 ≤ 2 by omega
  | 1 => show n / 7 % 4 + 1 ≤ 4 by omega
  | 2 => show 128 * (n % 7) + 128 ≤ 896 by omega
/-- The `n`-th row of 128 choices: batch row `n / 28`, choice `n / 7 % 4`, tokens `128 * (n % 7)` onward. -/
abbrev idR (n : ℕ) : Rect S2x4x896 := Rect.unit ![n / 28 % 2, n / 7 % 4, 128 * (n % 7)] S1x1x128.size (id_inb n)
/-- That row, as loaded. -/
def idRd (n : ℕ) : Vec F S1x1x128 .i32 :=
  View.readAt (Elt F) X5.view (idR n).toLoadRect (View.write (Elt F) X5.view s5 (ReadAs.same.apply (View.read (Elt F) I4.view f4)) Finset.univ)
/-- Which expert each of the row's choices names, as ones and zeros. -/
def hitB (n : ℕ) : IVec S96x128 32 :=
  extui 32 (cmpi .eq (broadcastTo S96x128 (shapeCast S1x128 (idRd c f4 s5 n : IVec S1x1x128 32) shapeCasts_S1x1x128_S1x128) broadcasts_S1x128_S96x128)
    (iota .tc S96x128 32 [0] iota_S96x128_d0_w32)) natLt_1_32
/-- The first `n` rows counted, lane by lane. -/
def cntB : ℕ → IVec S96x128 32
  | 0 => broadcast S96x128 0#32
  | n + 1 => addi (cntB n) (hitB c f4 s5 n)
/-- The load fractions, a column. -/
def fCol : FVec F S96x1 .f32 :=
  divf (sitofp .f32 (shapeCast S96x1 (multiReductionI .add [1] S96 (cntB c f4 s5 56) 0#32 reduces_S96x128_S96 rfl) shapeCasts_S96_S96x1))
    (broadcast S96x1 (Scalar.ofBits .f32 0x45E00000#32))

/-! ## The stores, listed -/

/-- Half block `j`'s gradient as it is staged. -/
def slabPiece (j : Fin 14) : View.Piece (Elt F) S14x96x128 .f32 :=
  ⟨slabR j, shapeCast S1x96x128 (slabB (fCol c f4 s5) (zB c f0 f1 f2 f3 s1 s2 s4 j)) shapeCasts_S96x128_S1x96x128⟩
/-- Half block `j`'s tokens of the gradient, experts × tokens. -/
abbrev outM (j : Fin 14) : Memref sig .tc .hbm S96x128 .f32 :=
  (O4.slice (outR j) (fun _ => rfl)).squeeze S96x128 squeezes_S1x96x128_S96x128
/-- Half block `j`'s slab of the staging buffer, experts × tokens. -/
abbrev stageM (j : Fin 14) : Memref sig .tc .vmem S96x128 .f32 :=
  (X10.slice (slabR j) (fun _ => rfl)).squeeze S96x128 squeezes_S1x96x128_S96x128

/-- The stores of the balance loss. -/
def auxPieces : List (View.Piece (Elt F) S2x896 .f32) :=
  desc14.map fun j => ⟨rowR j, shapeCast S1x128 (auxB (fCol c f4 s5) (zB c f0 f1 f2 f3 s1 s2 s4 j)) shapeCasts_S1x128_S1x128⟩
/-- The stores of the z-loss terms. -/
def ztPieces : List (View.Piece (Elt F) S2x896 .f32) :=
  desc14.map fun j => ⟨rowR j, shapeCast S1x128 (ztB (zB c f0 f1 f2 f3 s1 s2 s4 j)) shapeCasts_S1x128_S1x128⟩
/-- The stores of the log-sum-exps. -/
def lsePieces : List (View.Piece (Elt F) S2x896 .f32) :=
  desc14.map fun j => ⟨rowR j, shapeCast S1x128 (lseB (zB c f0 f1 f2 f3 s1 s2 s4 j)) shapeCasts_S1x128_S1x128⟩

variable (o0 : Bf (F := F) c O0) (o1 : Bf (F := F) c O1) (o2 : Bf (F := F) c O2) (o3 : Bf (F := F) c O3) (o4 : Bf (F := F) c O4)
    (s0 : Bf (F := F) c X0) (s3 : Bf (F := F) c X3) (s6 : Bf (F := F) c X6) (s7 : Bf (F := F) c X7) (s8 : Bf (F := F) c X8) (s9 : Bf (F := F) c X9) (s10 : Bf (F := F) c X10)

/-- The gradient after all fourteen half blocks are copied out. -/
def outDl : Bf (F := F) c O4 :=
  asc14.foldl (fun acc j => View.write (Elt F) (outM j).view acc
    (ReadAs.same.apply (View.read (Elt F) (stageM j).view (View.writes X10.view (Elt F) s10
      (slabPiece c f0 f1 f2 f3 f4 s1 s2 s4 s5 j :: (asc14.take j.val).reverse.map (slabPiece c f0 f1 f2 f3 f4 s1 s2 s4 s5))))) Finset.univ) o4

theorem fCol_eq : kernelRun.sl.r_3 c f4 s5 = fCol c f4 s5 := rfl
theorem w_eq : kernelRun.sl.v438 c f2 s2 = wRd c f2 s2 := rfl
open kernelRun.sl in
theorem HX6_eq : HX6_14 c f0 f1 f2 f3 f4 s1 s2 s4 s5 = auxPieces c f0 f1 f2 f3 f4 s1 s2 s4 s5 := rfl
open kernelRun.sl in
theorem HX7_eq : HX7_14 c f0 f1 f2 f3 s1 s2 s4 = ztPieces c f0 f1 f2 f3 s1 s2 s4 := rfl
open kernelRun.sl in
theorem HX9_eq : HX9_14 c f0 f1 f2 f3 s1 s2 s4 = lsePieces c f0 f1 f2 f3 s1 s2 s4 := rfl
open kernelRun.sl in
theorem r75_eq : r_75 c f0 f1 f2 f3 s1 s2 s4 = pAcc c f0 f1 f2 f3 s1 s2 s4 := rfl
open kernelRun.sl in
theorem HX10_eq : HX10_14 c f0 f1 f2 f3 f4 s1 s2 s4 s5 = desc14.map (slabPiece c f0 f1 f2 f3 f4 s1 s2 s4 s5) := rfl

/-- What the body's run leaves in the five results, in those families. -/
theorem run_eq :
    (kernelRun c f0 f1 f2 f3 f4 o0 o1 o2 o3 o4 s0 s1 s2 s3 s4 s5 s6 s7 s8 s9 s10).1
      = (View.write (Elt F) O0.view o0 (ReadAs.same.apply (View.read (Elt F) X6.view (X6.view.writes (Elt F) s6 (auxPieces c f0 f1 f2 f3 f4 s1 s2 s4 s5)))) Finset.univ,
        View.write (Elt F) O1.view o1 (ReadAs.same.apply (View.read (Elt F) X7.view (X7.view.writes (Elt F) s7 (ztPieces c f0 f1 f2 f3 s1 s2 s4)))) Finset.univ,
        View.write (Elt F) O2.view o2 (ReadAs.same.apply (View.read (Elt F) X8.view (X8.view.writes (Elt F) s8 [⟨wsR, k0_pay175 (pAcc c f0 f1 f2 f3 s1 s2 s4)⟩]))) Finset.univ,
        View.write (Elt F) O3.view o3 (ReadAs.same.apply (View.read (Elt F) X9.view (X9.view.writes (Elt F) s9 (lsePieces c f0 f1 f2 f3 s1 s2 s4)))) Finset.univ,
        outDl c f0 f1 f2 f3 f4 s1 s2 s4 s5 o4 s10) := by
  refine Prod.ext ?_ (Prod.ext ?_ (Prod.ext ?_ (Prod.ext ?_ ?_)))
  · rfl
  · rfl
  · rfl
  · rfl
  · rfl
end Cert.KernelIdeal.Hand
-- ==== Proof.KIColumns.lean ====
/-
  One half block read a token at a time, over the extended reals: each of the body's values at a token is a function of that
  token's column of scaled logits and of the load fractions. The same column functions describe the reference.
-/
module

public import proofs.«01_k».proof.Proof.KIBlocks
public import Idealize.ShloMosaic.Lib.Pointwise

@[expose] public section

set_option maxRecDepth 16384

noncomputable section

namespace Cert.Columns

open Idealize.ShloMosaic

/-- The largest of a token's logits. -/
def colTop (z : Fin 96 → EReal) : EReal := Finset.univ.fold max (Ideal.ofBits .f32 0xFF800000#32) z
/-- The same, or zero where it is not finite. -/
def colMax (z : Fin 96 → EReal) : EReal :=
  Scalar.select (Ideal.cmp .olt (max (colTop z) (-colTop z)) (Ideal.ofBits .f32 0x7F800000#32)) (colTop z) 0
/-- A token's log-sum-exp. -/
def colLse (z : Fin 96 → EReal) : EReal := Ideal.log (∑ e, Ideal.exp (z e - colMax z)) + colMax z
/-- A token's routing probabilities. -/
def colP (z : Fin 96 → EReal) (e : Fin 96) : EReal := Ideal.exp (z e - colLse z)
/-- A token's probabilities against the load fractions. -/
def colG (f z : Fin 96 → EReal) : EReal := ∑ e, colP z e * f e
/-- A token's balance loss. -/
def colAux (f z : Fin 96 → EReal) : EReal := Ideal.ofBits .f32 0x3A0C6F2D#32 * colG f z
/-- A token's z-loss term. -/
def colZt (z : Fin 96 → EReal) : EReal := Ideal.ofBits .f32 0x3515CBEC#32 * (colLse z * colLse z)
/-- A token's gradient in its logits. -/
def colDl (f z : Fin 96 → EReal) (e : Fin 96) : EReal :=
  colP z e * (Ideal.ofBits .f32 0x3A0C6F2D#32 * (f e - colG f z) + Ideal.ofBits .f32 0x3595CBEC#32 * colLse z)

/-- Whether two words are equal, as a word, is the word of one or of zero. -/
theorem hit_word (a b : BitVec 32) : BitVec.setWidth 32 (IntOp.cmpi .eq a b) = BitVec.ofNat 32 (if a = b then 1 else 0) := by
  by_cases h : a = b
  · subst h; rw [if_pos rfl, IntOp.cmpi_eq_self]; rfl
  · rw [if_neg h, show IntOp.cmpi .eq a b = 0#1 by
      show BitVec.ofBool (a == b) = 0#1
      rw [beq_eq_false_iff_ne.mpr h]; rfl]
    rfl

/-- Words of naturals added up are the word of the naturals' sum. -/
theorem fold_words {ι : Type} (g : ι → ℕ) (S : Finset ι) :
    Finset.fold IntOp.addi (0#32) (fun i => BitVec.ofNat 32 (g i)) S = BitVec.ofNat 32 (∑ i ∈ S, g i) := by
  classical
  induction S using Finset.induction_on with
  | empty => rfl
  | insert a S ha ih =>
    rw [Finset.fold_insert ha, ih, Finset.sum_insert ha, BitVec.ofNat_add]; rfl

end Cert.Columns

namespace Cert.KernelIdeal.Hand

open Cert.KernelIdeal Cert.KernelIdeal.Gen Cert.Columns
open Idealize.ShloMosaic Idealize.ShloMosaic.TcCoe

/-- Column `l` of a block of scaled logits. -/
abbrev col (z : FVec Ideal S96x128 .f32) (l : Fin 128) : Fin 96 → EReal := fun e => z (ix2 e l)
/-- A column array as a function of the expert. -/
abbrev fr (f : FVec Ideal S96x1 .f32) : Fin 96 → EReal := fun e => f (ix2 e 0)

theorem maxB_apply (z : FVec Ideal S96x128 .f32) (l : Fin 128) : maxB z (ix2 0 l) = colMax (col z l) := by
  pointwise [maxB, colMax, colTop, col]
  rfl
theorem lseB_apply (z : FVec Ideal S96x128 .f32) (l : Fin 128) : lseB z (ix2 0 l) = colLse (col z l) := by
  pointwise [lseB, colLse]
  simp only [maxB_apply]
theorem pB_apply (z : FVec Ideal S96x128 .f32) (e : Fin 96) (l : Fin 128) : pB z (ix2 e l) = colP (col z l) e := by
  pointwise [pB, colP]
  simp only [lseB_apply]
theorem gB_apply (f : FVec Ideal S96x1 .f32) (z : FVec Ideal S96x128 .f32) (l : Fin 128) : gB f z (ix2 0 l) = colG (fr f) (col z l) := by
  pointwise [gB, colG]
  simp only [pB_apply]
theorem auxB_apply (f : FVec Ideal S96x1 .f32) (z : FVec Ideal S96x128 .f32) (l : Fin 128) : auxB f z (ix2 0 l) = colAux (fr f) (col z l) := by
  pointwise [auxB, colAux]
  simp only [gB_apply]
theorem ztB_apply (z : FVec Ideal S96x128 .f32) (l : Fin 128) : ztB z (ix2 0 l) = colZt (col z l) := by
  pointwise [ztB, colZt]
  simp only [lseB_apply]
theorem slabB_apply (f : FVec Ideal S96x1 .f32) (z : FVec Ideal S96x128 .f32) (e : Fin 96) (l : Fin 128) :
    slabB f z (ix2 e l) = colDl (fr f) (col z l) e := by
  pointwise [slabB, colDl]
  simp only [pB_apply, gB_apply, lseB_apply]

end Cert.KernelIdeal.Hand
-- ==== Proof.KIReads.lean ====
/-
  What the body loads, read at an index: every load is a place of one of the five operands, whatever the scratch buffers
  held before.
-/
module

public import proofs.«01_k».proof.Proof.KIColumns

@[expose] public section

set_option maxRecDepth 16384

noncomputable section

namespace Cert.KernelIdeal.Hand

open Cert.KernelIdeal Cert.KernelIdeal.Gen
open Idealize.ShloMosaic Idealize.ShloMosaic.TcCoe

/-- The batch row of half block `j`. -/
def jb (j : Fin 14) : Fin 2 := ⟨j.val / 7, by omega⟩
/-- The token that lane `l` of half block `j` is, in its batch row. -/
def js (j : Fin 14) (l : Fin 128) : Fin 896 := ⟨128 * (j.val % 7) + l.val, by omega⟩
/-- The same token among all 1792. -/
def jr (j : Fin 14) (l : Fin 128) : Fin 1792 := ⟨128 * j.val + l.val, by omega⟩

/-- A whole buffer written over and loaded through a rectangle reads what was written. -/
theorem readAt_write_whole {Val : EltTy → Type} {κ : Kind} (b : Ref sig κ) (r : Rect b.ty.shape) (f w : b.ty.Contents Val) (x : r.shape.Idx) :
    View.readAt Val (View.whole b) r.toLoadRect (View.write Val (View.whole b) f w Finset.univ) x = w (r.emb x) := by
  rw [View.write_whole_univ, View.readAt_apply, View.read_whole]; rfl

/-- A rectangle holds the places of its own indices. -/
theorem emb_mem {s : Shape} (r : Rect s) (x : r.shape.Idx) : r.emb x ∈ r.set := by
  rw [← Rect.map_emb_univ]; exact Finset.mem_map_of_mem _ (Finset.mem_univ _)

/-- A load covered by a list of pieces that all agree with one function reads that function. -/
theorem readCov_of_pieces {Val : EltTy → Type} [∀ e, Nonempty (Val e)] {κ : Kind} {sp : Space} {s : Shape} {e : EltTy} (v : View sig κ sp s e)
    (G : s.Idx → Val e) (L : List (View.Piece Val s e)) (hG : ∀ p ∈ L, ∀ x : p.1.shape.Idx, p.2 x = G (p.1.emb x))
    (r : Rect s) (x : r.shape.Idx) (h : ∃ p ∈ L, r.emb x ∈ p.1.set) : v.readCov L r.toLoadRect x = G (r.emb x) :=
  View.read_writes_apply_of_pieces v _ G L hG _ h

section generic
variable {F : FTy → Type} [FloatOps F]
variable (c : Dev nD)
  (f0 : Bf (F := F) c I0) (f1 : Bf (F := F) c I1) (f2 : Bf (F := F) c I2) (f3 : Bf (F := F) c I3) (f4 : Bf (F := F) c I4)
  (s1 : Bf (F := F) c X1) (s2 : Bf (F := F) c X2) (s4 : Bf (F := F) c X4) (s5 : Bf (F := F) c X5)

theorem xsRd_apply (j : Fin 14) (l : Fin 128) :
    xsRd c f1 s1 j (ix2 0 l) = (f1 : S2x896.Idx → Elt F .f32) (ix2 (jb j) (js j l)) := by
  refine (readAt_write_whole cc0_scratch1 (rowR j) s1 _ (ix2 0 l)).trans ?_
  show (f1 : S2x896.Idx → Elt F .f32) _ = _
  refine congrArg (f1 : S2x896.Idx → Elt F .f32) (Rect.emb_eq_of_coords _ _ _ fun a => ?_)
  match a with
  | 0 => show j.val / 7 = j.val / 7 + 1 * 0; omega
  | 1 => show 128 * (j.val % 7) + l.val = 128 * (j.val % 7) + 1 * l.val; omega

theorem idRd_apply (n : ℕ) (l : Fin 128) :
    idRd c f4 s5 n (ix3 0 0 l) = (f4 : S2x4x896.Idx → Elt F .i32) (ix3 ⟨n / 28 % 2, by omega⟩ ⟨n / 7 % 4, by omega⟩ ⟨128 * (n % 7) + l.val, by omega⟩) := by
  refine (readAt_write_whole cc0_scratch5 (idR n) s5 _ (ix3 0 0 l)).trans ?_
  show (f4 : S2x4x896.Idx → Elt F .i32) _ = _
  refine congrArg (f4 : S2x4x896.Idx → Elt F .i32) (Rect.emb_eq_of_coords _ _ _ fun a => ?_)
  match a with
  | 0 => show n / 28 % 2 = n / 28 % 2 + 1 * 0; omega
  | 1 => show n / 7 % 4 = n / 7 % 4 + 1 * 0; omega
  | 2 => show 128 * (n % 7) + l.val = 128 * (n % 7) + 1 * l.val; omega

theorem xRd_apply (i : Fin 7) (r : Fin 256) (k : Fin 16384) :
    xRd c f0 i (ix2 r k) = (f0 : S1792x16384.Idx → Elt F .fp8e4m3) (ix2 ⟨256 * i.val + r.val, by omega⟩ k) := by
  refine (readCov_of_pieces X0.view (f0 : S1792x16384.Idx → Elt F .fp8e4m3) (xPieces c f0) ?_ (xR i) (ix2 r k) ?_).trans ?_
  · intro p hp x
    obtain ⟨i', -, rfl⟩ := List.mem_map.mp hp
    rfl
  · exact ⟨_, List.mem_map.mpr ⟨i, (by decide : ∀ i : Fin 7, i ∈ ([6, 5, 4, 3, 2, 1, 0] : List (Fin 7))) i, rfl⟩, emb_mem _ _⟩
  · refine congrArg (f0 : S1792x16384.Idx → Elt F .fp8e4m3) (Rect.emb_eq_of_coords _ _ _ fun a => ?_)
    match a with
    | 0 => show 256 * i.val + r.val = 256 * i.val + 1 * r.val; omega
    | 1 => show k.val = 0 + 1 * k.val; omega

theorem wRd_apply (e : Fin 96) (k : Fin 16384) :
    wRd c f2 s2 (ix2 e k) = FloatOps.sitofp .bf16 ((f2 : S96x16384.Idx → BitVec 8) (ix2 e k)) := by
  have he : (wAllR).emb (ix2 e k) = (ix2 e k : S96x16384.Idx) := Rect.emb_eq_of_coords _ _ _ fun a => match a with
    | 0 => by show e.val = 0 + 1 * e.val; omega
    | 1 => by show k.val = 0 + 1 * k.val; omega
  refine (readCov_of_pieces X3.view (fun y => FloatOps.sitofp .bf16 ((f2 : S96x16384.Idx → BitVec 8) y)) (wPieces c f2 s2) ?_ wAllR (ix2 e k) ?_).trans ?_
  · intro p hp x
    obtain ⟨i', -, rfl⟩ := List.mem_map.mp hp
    show wIn c f2 s2 i' x = FloatOps.sitofp .bf16 ((f2 : S96x16384.Idx → BitVec 8) ((wR i').emb x))
    unfold wIn
    refine (congrFun (shapeCast_self (s := S96x2048) _ _) x).trans ?_
    refine congrArg (FloatOps.sitofp .bf16) ?_
    exact readAt_write_whole cc0_scratch2 (wR i') s2 _ x
  · refine ⟨_, List.mem_map.mpr ⟨⟨k.val / 2048, by omega⟩, (by decide : ∀ i : Fin 8, i ∈ ([7, 6, 5, 4, 3, 2, 1, 0] : List (Fin 8))) _, rfl⟩, ?_⟩
    rw [he]
    have : (ix2 e k : S96x16384.Idx) = (wR ⟨k.val / 2048, by omega⟩).emb (ix2 e (⟨k.val % 2048, by omega⟩ : Fin 2048)) := by
      refine (Rect.emb_eq_of_coords (wR ⟨k.val / 2048, by omega⟩) (ix2 e (⟨k.val % 2048, by omega⟩ : Fin 2048)) (ix2 e k) fun a => ?_).symm
      match a with
      | 0 => show e.val = 0 + 1 * e.val; omega
      | 1 => show k.val = 2048 * (k.val / 2048) + 1 * (k.val % 2048); omega
    rw [this]
    exact emb_mem _ _
  · show FloatOps.sitofp .bf16 ((f2 : S96x16384.Idx → BitVec 8) _) = _
    rw [he]
end generic

end Cert.KernelIdeal.Hand
-- ==== Proof.KIValue.lean ====
/-
  The body's results as functions of the operands, over the extended reals.
-/
module

public import proofs.«01_k».proof.Proof.KIReads

@[expose] public section

set_option maxRecDepth 16384

noncomputable section

namespace Cert.Columns

open Idealize.ShloMosaic

/-- A token's scaled logits, from the weights, that token's activations, its scale and the weights' scales. -/
def colZ (w : Fin 96 → Fin 16384 → EReal) (x : Fin 16384 → EReal) (xs : EReal) (ws : Fin 96 → EReal) (e : Fin 96) : EReal :=
  (∑ k, w e k * x k) * xs * ws e

end Cert.Columns

namespace Cert.KernelIdeal.Hand

open Cert.KernelIdeal Cert.KernelIdeal.Gen Cert.Columns
open Idealize.ShloMosaic Idealize.ShloMosaic.TcCoe

variable (c : Dev nD)
  (f0 : Bf (F := Ideal) c I0) (f1 : Bf (F := Ideal) c I1) (f2 : Bf (F := Ideal) c I2) (f3 : Bf (F := Ideal) c I3) (f4 : Bf (F := Ideal) c I4)
  (s1 : Bf (F := Ideal) c X1) (s2 : Bf (F := Ideal) c X2) (s4 : Bf (F := Ideal) c X4) (s5 : Bf (F := Ideal) c X5)

/-- The scaled logits of token `s` of batch row `b`, from the operands. -/
def zTok (b : Fin 2) (s : Fin 896) : Fin 96 → EReal :=
  colZ (fun e k => FloatOps.sitofp (F := Ideal) .bf16 ((f2 : S96x16384.Idx → BitVec 8) (ix2 e k)))
    (fun k => (f0 : S1792x16384.Idx → EReal) (ix2 ⟨896 * b.val + s.val, by omega⟩ k))
    ((f1 : S2x896.Idx → EReal) (ix2 b s)) (fun e => (f3 : S1x96.Idx → EReal) (ix2 0 e))

theorem wsCol_apply (e : Fin 96) : wsCol c f3 s4 (ix2 e 0) = (f3 : S1x96.Idx → EReal) (ix2 0 e) := by
  have hr : ∀ e : Fin 96, View.readAt (Elt Ideal) X4.view wsR.toLoadRect
      (View.write (Elt Ideal) X4.view s4 (ReadAs.same.apply (View.read (Elt Ideal) I3.view f3)) Finset.univ) (ix2 0 e)
        = (f3 : S1x96.Idx → EReal) (ix2 0 e) := fun e => by
    refine (readAt_write_whole cc0_scratch4 wsR s4 _ (ix2 0 e)).trans ?_
    show (f3 : S1x96.Idx → EReal) _ = _
    refine congrArg (f3 : S1x96.Idx → EReal) (Rect.emb_eq_of_coords _ _ _ fun a => ?_)
    match a with
    | 0 => show 0 = 0 + 1 * 0; omega
    | 1 => show e.val = 0 + 1 * e.val; omega
  unfold wsCol
  generalize View.readAt (Elt Ideal) X4.view wsR.toLoadRect
      (View.write (Elt Ideal) X4.view s4 (ReadAs.same.apply (View.read (Elt Ideal) I3.view f3)) Finset.univ) = v at hr ⊢
  pointwise [k0_pay14]
  rw [Finset.sum_eq_single e]
  · rw [hr, (IntOp.cmpi_eq_self _ : IntOp.cmpi .eq (BitVec.ofNat 32 e.val) (BitVec.ofNat 32 e.val) = 1#1)]
    rfl
  · intro x _ hx
    have hne : BitVec.ofNat 32 e.val ≠ BitVec.ofNat 32 x.val := fun h => hx (Fin.ext (by
      have := congrArg BitVec.toNat h
      simp only [BitVec.toNat_ofNat] at this
      omega))
    rw [show IntOp.cmpi .eq (BitVec.ofNat 32 e.val) (BitVec.ofNat 32 x.val) = 0#1 by
      show BitVec.ofBool (BitVec.ofNat 32 e.val == BitVec.ofNat 32 x.val) = 0#1
      rw [beq_eq_false_iff_ne.mpr hne]; rfl]
    rfl
  · intro h; exact absurd (Finset.mem_univ e) h

theorem rawB_apply (i : Fin 7) (e : Fin 96) (r : Fin 256) :
    rawB c f0 f2 s2 i (ix2 e r) = ∑ k : Fin 16384, FloatOps.sitofp (F := Ideal) .bf16 ((f2 : S96x16384.Idx → BitVec 8) (ix2 e k))
      * (f0 : S1792x16384.Idx → EReal) (ix2 ⟨256 * i.val + r.val, by omega⟩ k) := by
  pointwise [rawB]
  exact Finset.sum_congr rfl fun k _ => by rw [wRd_apply, xRd_apply]

theorem zB_apply (j : Fin 14) (e : Fin 96) (l : Fin 128) :
    zB c f0 f1 f2 f3 s1 s2 s4 j (ix2 e l) = zTok c f0 f1 f2 f3 (jb j) (js j l) e := by
  pointwise [zB]
  rw [rawB_apply, xsRd_apply, wsCol_apply]
  unfold zTok colZ
  have hrow : (⟨256 * (half j).val + (128 * (j.val % 2) + l.val), by have := (half j).isLt; omega⟩ : Fin 1792)
      = ⟨896 * (jb j).val + (js j l).val, by have := (jb j).isLt; have := (js j l).isLt; omega⟩ :=
    Fin.ext (by simp only [half, jb, js]; omega)
  rw [hrow]

/-- Column `l` of half block `j`'s scaled logits is that token's. -/
theorem col_zB (j : Fin 14) (l : Fin 128) :
    col (zB c f0 f1 f2 f3 s1 s2 s4 j) l = zTok c f0 f1 f2 f3 (jb j) (js j l) := funext fun e => zB_apply c f0 f1 f2 f3 s1 s2 s4 j e l

/-- One where choice `k` of token `s` of batch row `b` is expert `e`, else zero. -/
def hitTok (e : Fin 96) (b : Fin 2) (s : Fin 896) (k : Fin 4) : ℕ :=
  if (f4 : S2x4x896.Idx → BitVec 32) (ix3 b k s) = BitVec.ofNat 32 e.val then 1 else 0

/-- The load fractions, from the operand. -/
def fTok (e : Fin 96) : EReal :=
  Ideal.div (FloatOps.sitofp (F := Ideal) .f32 (BitVec.ofNat 32 (∑ b : Fin 2, ∑ s : Fin 896, ∑ k : Fin 4, hitTok c f4 e b s k)))
    (Ideal.ofBits .f32 0x45E00000#32)

theorem hitB_apply (n : ℕ) (e : Fin 96) (l : Fin 128) :
    hitB c f4 s5 n (ix2 e l)
      = BitVec.ofNat 32 (hitTok c f4 e ⟨n / 28 % 2, by omega⟩ ⟨128 * (n % 7) + l.val, by omega⟩ ⟨n / 7 % 4, by omega⟩) := by
  pointwise [hitB]
  rw [idRd_apply, hit_word]
  rfl

theorem cntB_apply (e : Fin 96) (l : Fin 128) : ∀ n : ℕ, cntB c f4 s5 n (ix2 e l)
    = BitVec.ofNat 32 (∑ i ∈ Finset.range n, hitTok c f4 e ⟨i / 28 % 2, by omega⟩ ⟨128 * (i % 7) + l.val, by omega⟩ ⟨i / 7 % 4, by omega⟩)
  | 0 => rfl
  | n + 1 => by
    rw [Finset.sum_range_succ, BitVec.ofNat_add, ← cntB_apply e l n, ← hitB_apply c f4 s5 n e l]; rfl

/-- The fifty-six rows' lanes are the choices of all tokens. -/
theorem sum_lanes (g : Fin 2 → Fin 896 → Fin 4 → ℕ) :
    (∑ l : Fin 128, ∑ i ∈ Finset.range 56, g ⟨i / 28 % 2, by omega⟩ ⟨128 * (i % 7) + l.val, by omega⟩ ⟨i / 7 % 4, by omega⟩)
      = ∑ b : Fin 2, ∑ s : Fin 896, ∑ k : Fin 4, g b s k := by
  simp only [← Fintype.sum_prod_type', ← Finset.sum_product']
  refine Finset.sum_bij'
    (fun p _ => ((⟨p.2 / 28 % 2, by omega⟩, ⟨128 * (p.2 % 7) + p.1.val, by omega⟩, ⟨p.2 / 7 % 4, by omega⟩) : Fin 2 × Fin 896 × Fin 4))
    (fun q _ => ((⟨q.2.1.val % 128, by omega⟩ : Fin 128), 28 * q.1.val + 7 * q.2.2.val + q.2.1.val / 128)) ?_ ?_ ?_ ?_ ?_
  · intro p _; exact Finset.mem_univ _
  · intro q _; simp only [Finset.mem_product, Finset.mem_univ, Finset.mem_range, true_and]; omega
  · rintro ⟨l, i⟩ hp
    simp only [Finset.mem_product, Finset.mem_univ, Finset.mem_range, true_and] at hp
    refine Prod.ext (Fin.ext ?_) ?_
    · show (128 * (i % 7) + l.val) % 128 = l.val; omega
    · show 28 * (i / 28 % 2) + 7 * (i / 7 % 4) + (128 * (i % 7) + l.val) / 128 = i; omega
  · rintro ⟨b, s, k⟩ _
    refine Prod.ext (Fin.ext ?_) (Prod.ext (Fin.ext ?_) (Fin.ext ?_))
    · show (28 * b.val + 7 * k.val + s.val / 128) / 28 % 2 = b.val; omega
    · show 128 * ((28 * b.val + 7 * k.val + s.val / 128) % 7) + s.val % 128 = s.val; omega
    · show (28 * b.val + 7 * k.val + s.val / 128) / 7 % 4 = k.val; omega
  · intro p _; rfl

theorem fCol_apply (e : Fin 96) : fCol c f4 s5 (ix2 e 0) = fTok c f4 e := by
  pointwise [fCol]
  unfold fTok
  rw [← sum_lanes (hitTok c f4 e), ← fold_words]
  simp only [cntB_apply]

/-- The probabilities summed over all tokens and divided by their number. -/
def pTok (e : Fin 96) : EReal :=
  Ideal.div (∑ b : Fin 2, ∑ s : Fin 896, colP (zTok c f0 f1 f2 f3 b s) e) (Ideal.ofBits .f32 0x44E00000#32)

/-- The lanes of the fourteen half blocks are the tokens. -/
theorem sum_blocks (g : Fin 2 → Fin 896 → EReal) :
    (∑ l : Fin 128, ∑ j : Fin 14, g (jb j) (js j l)) = ∑ b : Fin 2, ∑ s : Fin 896, g b s := by
  simp only [← Fintype.sum_prod_type']
  refine Finset.sum_bij' (fun p _ => (jb p.2, js p.2 p.1))
    (fun q _ => ((⟨q.2.val % 128, by omega⟩ : Fin 128), (⟨7 * q.1.val + q.2.val / 128, by omega⟩ : Fin 14))) ?_ ?_ ?_ ?_ ?_
  · intro p _; exact Finset.mem_univ _
  · intro q _; exact Finset.mem_univ _
  · rintro ⟨l, j⟩ _
    refine Prod.ext (Fin.ext ?_) (Fin.ext ?_)
    · show (128 * (j.val % 7) + l.val) % 128 = l.val; omega
    · show 7 * (j.val / 7) + (128 * (j.val % 7) + l.val) / 128 = j.val; omega
  · rintro ⟨b, s⟩ _
    refine Prod.ext (Fin.ext ?_) (Fin.ext ?_)
    · show (7 * b.val + s.val / 128) / 7 = b.val; omega
    · show 128 * ((7 * b.val + s.val / 128) % 7) + s.val % 128 = s.val; omega
  · intro p _; rfl

theorem pAcc_apply (e : Fin 96) (l : Fin 128) :
    pAcc c f0 f1 f2 f3 s1 s2 s4 (ix2 e l) = ∑ j : Fin 14, colP (zTok c f0 f1 f2 f3 (jb j) (js j l)) e := by
  pointwise [pAcc]
  simp only [pB_apply, col_zB, Fin.sum_univ_castSucc, Finset.univ_eq_empty, Finset.sum_empty, zero_add]
  rfl

theorem pOut_apply (e : Fin 96) : k0_pay175 (pAcc c f0 f1 f2 f3 s1 s2 s4) (ix2 0 e) = pTok c f0 f1 f2 f3 e := by
  pointwise [k0_pay175]
  unfold pTok
  rw [← sum_blocks]
  simp only [pAcc_apply]

end Cert.KernelIdeal.Hand
-- ==== Proof.KIResults.lean ====
/-
  What the launch leaves in the kernel's five results, each a function of the operands.
-/
module

public import proofs.«01_k».proof.Proof.KIValue

@[expose] public section

set_option maxRecDepth 16384

noncomputable section

namespace Cert.KernelIdeal.Hand

open Cert.KernelIdeal Cert.KernelIdeal.Gen Cert.Columns
open Idealize.ShloMosaic Idealize.ShloMosaic.TcCoe

/-! ## Buffers stored half block by half block -/

theorem rowR_emb (j : Fin 14) (l : Fin 128) : (rowR j).emb (ix2 0 l) = (ix2 (jb j) (js j l) : S2x896.Idx) := by
  refine Rect.emb_eq_of_coords _ _ _ fun a => ?_
  match a with
  | 0 => show j.val / 7 = j.val / 7 + 1 * 0; omega
  | 1 => show 128 * (j.val % 7) + l.val = 128 * (j.val % 7) + 1 * l.val; omega

/-- Every token is a lane of some half block. -/
theorem tok_lane (b : Fin 2) (s : Fin 896) : ∃ (j : Fin 14) (l : Fin 128), jb j = b ∧ js j l = s :=
  ⟨⟨7 * b.val + s.val / 128, by omega⟩, ⟨s.val % 128, by omega⟩,
    Fin.ext (by show (7 * b.val + s.val / 128) / 7 = b.val; omega),
    Fin.ext (by show 128 * ((7 * b.val + s.val / 128) % 7) + s.val % 128 = s.val; omega)⟩

theorem mem_desc14 (j : Fin 14) : j ∈ desc14 := (by decide : ∀ j : Fin 14, j ∈ desc14) j
theorem mem_asc14 (j : Fin 14) : j ∈ asc14 := (by decide : ∀ j : Fin 14, j ∈ asc14) j

/-- A batch × token buffer stored half block by half block reads, whatever it held, the function that the stores agree with. -/
theorem rows_read {sp : Space} (v : View sig .tc sp S2x896 .f32) (s : v.ty.Contents (Elt Ideal)) (g : Fin 2 → Fin 896 → EReal)
    (w : Fin 14 → FVec Ideal S1x128 .f32) (h : ∀ j l, w j (ix2 0 l) = g (jb j) (js j l)) :
    View.read (Elt Ideal) v (v.writes (Elt Ideal) s (desc14.map fun j => ⟨rowR j, shapeCast S1x128 (w j) shapeCasts_S1x128_S1x128⟩))
      = fun y => g (y 0) (y 1) := by
  funext y
  refine View.read_writes_apply_of_pieces v s (fun y => (g (y 0) (y 1) : Elt Ideal .f32)) _ ?_ y ?_
  · intro p hp x
    obtain ⟨j, -, rfl⟩ := List.mem_map.mp hp
    obtain ⟨u, l, rfl⟩ : ∃ (u : Fin 1) (l : Fin 128), x = ix2 u l := ⟨x 0, x 1, eq_ix2 x⟩
    obtain rfl : u = 0 := Subsingleton.elim _ _
    refine (congrFun (shapeCast_self (s := S1x128) _ _) _).trans ((h j l).trans ?_)
    show g (jb j) (js j l) = g ((rowR j).emb (ix2 0 l) 0) ((rowR j).emb (ix2 0 l) 1)
    rw [rowR_emb]; rfl
  · obtain ⟨j, l, hb, hs⟩ := tok_lane (y 0) (y 1)
    refine ⟨_, List.mem_map.mpr ⟨j, mem_desc14 j, rfl⟩, ?_⟩
    rw [show y = (rowR j).emb (ix2 0 l) by rw [rowR_emb, hb, hs]; exact eq_ix2 y]
    exact emb_mem _ _

theorem slab_idx (e : Fin 96) (l : Fin 128) (h : S96x128.numel = S1x96x128.numel) :
    Shape.reshapeEquiv h (ix2 e l : S96x128.Idx) = (ix3 0 e l : S1x96x128.Idx) := by
  pointwise

theorem outM_emb (j : Fin 14) (e : Fin 96) (l : Fin 128) :
    (outM j).view.emb (ix2 e l) = (ix3 (jb j) e (js j l) : S2x96x896.Idx) := by
  show (outR j).emb (Shape.reshapeEquiv _ (ix2 e l : S96x128.Idx)) = _
  rw [slab_idx]
  refine Rect.emb_eq_of_coords _ _ _ fun a => ?_
  match a with
  | 0 => show j.val / 7 = j.val / 7 + 1 * 0; omega
  | 1 => show e.val = 0 + 1 * e.val; omega
  | 2 => show 128 * (j.val % 7) + l.val = 128 * (j.val % 7) + 1 * l.val; omega

/-- A buffer copied into half block by half block holds, at every place that some copy covers or that agreed before, the
    function that the copies agree with. -/
theorem outs_fold (g : S2x96x896.Idx → EReal) (w : Fin 14 → FVec Ideal S96x128 .f32)
    (h : ∀ j e l, w j (ix2 e l) = g (ix3 (jb j) e (js j l))) (y : S2x96x896.Idx) :
    ∀ (L : List (Fin 14)) (acc : S2x96x896.Idx → Elt Ideal .f32), (acc y = g y ∨ ∃ j ∈ L, y ∈ (outM j).view.set) →
      L.foldl (fun acc j => View.write (Elt Ideal) (outM j).view acc (w j) Finset.univ) acc y = g y
  | [], acc, hy => by
    rcases hy with hy | ⟨j, hj, -⟩
    · exact hy
    · exact absurd hj List.not_mem_nil
  | j :: L, acc, hy => by
    refine outs_fold g w h y L _ ?_
    by_cases hm : y ∈ (outM j).view.set
    · left
      obtain ⟨x, -, rfl⟩ := Finset.mem_map.mp hm
      refine (View.write_emb_of_mem (v := (outM j).view) acc (w j) (Finset.mem_univ x)).trans ?_
      obtain ⟨e, l, rfl⟩ : ∃ (e : Fin 96) (l : Fin 128), x = ix2 e l := ⟨x 0, x 1, eq_ix2 x⟩
      exact (h j e l).trans (congrArg g (outM_emb j e l).symm)
    · rcases hy with hy | ⟨j', hj', hm'⟩
      · left
        exact (View.write_of_not_mem (v := (outM j).view) acc (w j) Finset.univ hm).trans hy
      · rcases List.mem_cons.mp hj' with rfl | hj'
        · exact absurd hm' hm
        · exact .inr ⟨j', hj', hm'⟩

variable (c : Dev nD)
  (f0 : Bf (F := Ideal) c I0) (f1 : Bf (F := Ideal) c I1) (f2 : Bf (F := Ideal) c I2) (f3 : Bf (F := Ideal) c I3) (f4 : Bf (F := Ideal) c I4)
  (o0 : Bf (F := Ideal) c O0) (o1 : Bf (F := Ideal) c O1) (o2 : Bf (F := Ideal) c O2) (o3 : Bf (F := Ideal) c O3) (o4 : Bf (F := Ideal) c O4)
  (s0 : Bf (F := Ideal) c X0) (s1 : Bf (F := Ideal) c X1) (s2 : Bf (F := Ideal) c X2) (s3 : Bf (F := Ideal) c X3) (s4 : Bf (F := Ideal) c X4) (s5 : Bf (F := Ideal) c X5)
  (s6 : Bf (F := Ideal) c X6) (s7 : Bf (F := Ideal) c X7) (s8 : Bf (F := Ideal) c X8) (s9 : Bf (F := Ideal) c X9) (s10 : Bf (F := Ideal) c X10)

/-! ## The five results -/

/-- The balance losses. -/
def resAux : S2x896.Idx → EReal := fun y => colAux (fTok c f4) (zTok c f0 f1 f2 f3 (y 0) (y 1))
/-- The z-loss terms. -/
def resZt : S2x896.Idx → EReal := fun y => colZt (zTok c f0 f1 f2 f3 (y 0) (y 1))
/-- The mean probabilities. -/
def resP : S1x96.Idx → EReal := fun y => pTok c f0 f1 f2 f3 (y 1)
/-- The log-sum-exps. -/
def resLse : S2x896.Idx → EReal := fun y => colLse (zTok c f0 f1 f2 f3 (y 0) (y 1))
/-- The gradient, batch × experts × tokens. -/
def resDl : S2x96x896.Idx → EReal := fun y => colDl (fTok c f4) (zTok c f0 f1 f2 f3 (y 0) (y 2)) (y 1)

theorem fr_fCol : fr (fCol c f4 s5) = fTok c f4 := funext fun e => fCol_apply c f4 s5 e

theorem outDl_eq : outDl c f0 f1 f2 f3 f4 s1 s2 s4 s5 o4 s10 = resDl c f0 f1 f2 f3 f4 := by
  funext y
  refine outs_fold (resDl c f0 f1 f2 f3 f4) (fun j => (ReadAs.same.apply (View.read (Elt Ideal) (stageM j).view (View.writes X10.view (Elt Ideal) s10
      (slabPiece c f0 f1 f2 f3 f4 s1 s2 s4 s5 j :: (asc14.take j.val).reverse.map (slabPiece c f0 f1 f2 f3 f4 s1 s2 s4 s5)))) : FVec Ideal S96x128 .f32)) ?_ y asc14 o4 (.inr ?_)
  · intro j e l
    have hst : View.read (Elt Ideal) (stageM j).view (View.writes X10.view (Elt Ideal) s10
      (slabPiece c f0 f1 f2 f3 f4 s1 s2 s4 s5 j :: (asc14.take j.val).reverse.map (slabPiece c f0 f1 f2 f3 f4 s1 s2 s4 s5))) (ix2 e l)
        = slabB (fCol c f4 s5) (zB c f0 f1 f2 f3 s1 s2 s4 j) (ix2 e l) := by
      refine (View.read_writes_cons_emb X10.view s10 (slabR j) (slabPiece c f0 f1 f2 f3 f4 s1 s2 s4 s5 j).2 _ (Shape.reshapeEquiv squeezes_S1x96x128_S96x128.numel_eq (ix2 e l : S96x128.Idx))).trans ?_
      rw [slab_idx]
      show shapeCast S1x96x128 (slabB (fCol c f4 s5) (zB c f0 f1 f2 f3 s1 s2 s4 j)) shapeCasts_S96x128_S1x96x128 (ix3 0 e l) = _
      pointwise
    refine hst.trans ((slabB_apply _ _ e l).trans ?_)
    rw [fr_fCol, col_zB]; rfl
  · obtain ⟨b, e, s, rfl⟩ : ∃ (b : Fin 2) (e : Fin 96) (s : Fin 896), (y : S2x96x896.Idx) = ix3 b e s := ⟨y 0, y 1, y 2, eq_ix3 y⟩
    obtain ⟨j, l, rfl, rfl⟩ := tok_lane b s
    refine ⟨j, mem_asc14 j, ?_⟩
    have hm := View.emb_mem_set (outM j).view (ix2 e l)
    rwa [outM_emb] at hm

/-- The body's run leaves the five results at those functions, whatever the results and the scratch buffers held. -/
theorem run_values :
    (kernelRun c f0 f1 f2 f3 f4 o0 o1 o2 o3 o4 s0 s1 s2 s3 s4 s5 s6 s7 s8 s9 s10).1
      = (resAux c f0 f1 f2 f3 f4, resZt c f0 f1 f2 f3, resP c f0 f1 f2 f3, resLse c f0 f1 f2 f3, resDl c f0 f1 f2 f3 f4) := by
  rw [run_eq, outDl_eq]
  refine Prod.ext ?_ (Prod.ext ?_ (Prod.ext ?_ (Prod.ext ?_ rfl)))
  · refine (View.write_whole_univ main_v3_0 o0 _).trans ?_
    exact rows_read X6.view s6 (fun b s => colAux (fTok c f4) (zTok c f0 f1 f2 f3 b s)) (fun j => auxB (fCol c f4 s5) (zB c f0 f1 f2 f3 s1 s2 s4 j))
      fun j l => by rw [auxB_apply, fr_fCol, col_zB]
  · refine (View.write_whole_univ main_v3_1 o1 _).trans ?_
    exact rows_read X7.view s7 (fun b s => colZt (zTok c f0 f1 f2 f3 b s)) (fun j => ztB (zB c f0 f1 f2 f3 s1 s2 s4 j))
      fun j l => by rw [ztB_apply, col_zB]
  · refine (View.write_whole_univ main_v3_2 o2 _).trans ?_
    funext y
    obtain ⟨u, e, rfl⟩ : ∃ (u : Fin 1) (e : Fin 96), y = ix2 u e := ⟨y 0, y 1, eq_ix2 y⟩
    obtain rfl : u = 0 := Subsingleton.elim _ _
    have he : wsR.emb (ix2 0 e) = (ix2 0 e : S1x96.Idx) := Rect.emb_eq_of_coords _ _ _ fun a => match a with
      | 0 => by show 0 = 0 + 1 * 0; omega
      | 1 => by show e.val = 0 + 1 * e.val; omega
    refine (View.read_writes_cons_hit X8.view s8 wsR _ [] (ix2 0 e) (ix2 0 e) he).trans ?_
    exact pOut_apply c f0 f1 f2 f3 s1 s2 s4 e
  · refine (View.write_whole_univ main_v3_3 o3 _).trans ?_
    exact rows_read X9.view s9 (fun b s => colLse (zTok c f0 f1 f2 f3 b s)) (fun j => lseB (zB c f0 f1 f2 f3 s1 s2 s4 j))
      fun j l => by rw [lseB_apply, col_zB]

end Cert.KernelIdeal.Hand
-- ==== Proof.KIRun.lean ====
/-
  The kernel's program run to its end, over the extended reals: its five results as functions of its five arguments.
-/
module

public import proofs.«01_k».proof.Proof.KIResults
public import Idealize.ShloMosaic.Lib.Claim

@[expose] public section

set_option maxRecDepth 16384

noncomputable section

namespace Cert.Columns

open Idealize.ShloMosaic

/-- The scaled logits of token `s` of batch row `b`, from the activations, their scales, the weights and their scales. -/
def zOf (x : (⟨3, ![2, 896, 16384]⟩ : Shape).Idx → EReal) (xs : (⟨2, ![2, 896]⟩ : Shape).Idx → EReal)
    (w : (⟨2, ![96, 16384]⟩ : Shape).Idx → BitVec 8) (ws : (⟨1, ![96]⟩ : Shape).Idx → EReal) (b : Fin 2) (s : Fin 896) : Fin 96 → EReal :=
  colZ (fun e k => FloatOps.sitofp (F := Ideal) .bf16 (w (ix2 e k))) (fun k => x (ix3 b s k)) (xs (ix2 b s)) (fun e => ws (ix1 e))

/-- The share of all choices that name expert `e`. -/
def fOf (ids : (⟨3, ![2, 896, 4]⟩ : Shape).Idx → BitVec 32) (e : Fin 96) : EReal :=
  Ideal.div (FloatOps.sitofp (F := Ideal) .f32 (BitVec.ofNat 32
      (∑ b : Fin 2, ∑ s : Fin 896, ∑ k : Fin 4, if ids (ix3 b s k) = BitVec.ofNat 32 e.val then 1 else 0)))
    (Ideal.ofBits .f32 0x45E00000#32)

/-- The probabilities of expert `e` averaged over the tokens. -/
def meanOf (z : Fin 2 → Fin 896 → Fin 96 → EReal) (e : Fin 96) : EReal :=
  Ideal.div (∑ b : Fin 2, ∑ s : Fin 896, colP (z b s) e) (Ideal.ofBits .f32 0x44E00000#32)

end Cert.Columns

namespace Cert.KernelIdeal.Hand

open Cert.KernelIdeal Cert.KernelIdeal.Gen Cert.Columns
open Idealize.ShloMosaic Idealize.ShloMosaic.TcCoe Idealize.SL.Sem

variable (m : (ℓ : Loc nD τ sig) → Buf (Elt Ideal) ℓ) (ρ : Dev nD → PrngReg) (c : Dev nD)

/-- The program's arguments on core `c`, as arrays. -/
abbrev a0 : (⟨3, ![2, 896, 16384]⟩ : Shape).Idx → EReal := m ((c.tc : Thread nD τ).loc main_arg0)
abbrev a1 : (⟨2, ![2, 896]⟩ : Shape).Idx → EReal := m ((c.tc : Thread nD τ).loc main_arg1)
abbrev a2 : (⟨2, ![96, 16384]⟩ : Shape).Idx → BitVec 8 := m ((c.tc : Thread nD τ).loc main_arg2)
abbrev a3 : (⟨1, ![96]⟩ : Shape).Idx → EReal := m ((c.tc : Thread nD τ).loc main_arg3)
abbrev a4 : (⟨3, ![2, 896, 4]⟩ : Shape).Idx → BitVec 32 := m ((c.tc : Thread nD τ).loc main_arg4)

theorem v0_apply (b : Fin 2) (s : Fin 896) (k : Fin 16384) :
    (V m c main_v0 : S1792x16384.Idx → EReal) (ix2 ⟨896 * b.val + s.val, by omega⟩ k) = a0 m c (ix3 b s k) := by
  rw [show (V m c main_v0 : S1792x16384.Idx → EReal) = shapeCast S1792x16384 (a0 m c) shapeCasts_S2x896x16384_S1792x16384 by
    show StableHlo.after hostOps0 _ (Proc.devRef .tc main_v0) = _
    after_results
    rfl]
  pointwise
theorem v1_apply (e : Fin 96) : (V m c main_v1 : S1x96.Idx → EReal) (ix2 0 e) = a3 m c (ix1 e) := by
  rw [show (V m c main_v1 : S1x96.Idx → EReal) = shapeCast S1x96 (a3 m c) shapeCasts_S96_S1x96 by
    show StableHlo.after hostOps0 _ (Proc.devRef .tc main_v1) = _
    after_results
    rfl]
  pointwise
theorem v2_apply (b : Fin 2) (s : Fin 896) (k : Fin 4) : (V m c main_v2 : S2x4x896.Idx → BitVec 32) (ix3 b k s) = a4 m c (ix3 b s k) := by
  rw [show (V m c main_v2 : S2x4x896.Idx → BitVec 32) = transpose S2x4x896 [0, 2, 1] (a4 m c) transposes_S2x896x4_S2x4x896_0_2_1 by
    show StableHlo.after hostOps0 _ (Proc.devRef .tc main_v2) = _
    after_results]
  pointwise

theorem zTok_eq (b : Fin 2) (s : Fin 896) :
    zTok c (V m c main_v0) (V m c main_arg1) (V m c main_arg2) (V m c main_v1) b s = zOf (a0 m c) (a1 m c) (a2 m c) (a3 m c) b s := by
  unfold zTok zOf
  refine congr (congr (congr (congrArg colZ ?_) ?_) ?_) ?_
  · funext e k
    exact congrArg (FloatOps.sitofp (F := Ideal) .bf16) (congrFun (V_main_arg2 m c) (ix2 e k))
  · funext k
    exact v0_apply m c b s k
  · exact congrFun (V_main_arg1 m c) (ix2 b s)
  · funext e
    exact v1_apply m c e
theorem fTok_eq : fTok c (V m c main_v2) = fOf (a4 m c) := by
  funext e
  unfold fTok fOf
  refine congrArg (fun n : ℕ => Ideal.div (FloatOps.sitofp (F := Ideal) .f32 (BitVec.ofNat 32 n)) (Ideal.ofBits .f32 0x45E00000#32)) ?_
  refine Finset.sum_congr rfl fun b _ => Finset.sum_congr rfl fun s _ => Finset.sum_congr rfl fun k _ => ?_
  show (if _ = _ then 1 else 0) = _
  rw [show (V m c main_v2 : S2x4x896.Idx → BitVec 32) (ix3 b k s) = _ from v2_apply m c b s k]

/-- A family of contents with the one of `b` replaced by `v`. -/
def put (G : (b : Ref sig .tc) → Buf (Elt Ideal) ((c.tc : Thread nD τ).loc b)) (a : Ref sig .tc) (v : Buf (Elt Ideal) ((c.tc : Thread nD τ).loc a))
    (b : Ref sig .tc) : Buf (Elt Ideal) ((c.tc : Thread nD τ).loc b) :=
  if h : b = a then h ▸ v else G b

theorem put_self (G : (b : Ref sig .tc) → Buf (Elt Ideal) ((c.tc : Thread nD τ).loc b)) (a : Ref sig .tc)
    (v : Buf (Elt Ideal) ((c.tc : Thread nD τ).loc a)) : put c G a v a = v := by
  unfold put; rw [dif_pos rfl]
theorem put_ne (G : (b : Ref sig .tc) → Buf (Elt Ideal) ((c.tc : Thread nD τ).loc b)) (a b : Ref sig .tc)
    (v : Buf (Elt Ideal) ((c.tc : Thread nD τ).loc a)) (h : b ≠ a) : put c G a v b = G b := by
  unfold put; rw [dif_neg h]

/-- The contents of the five results once the body has run. -/
def Gres (c : Dev nD) : (b : Ref sig .tc) → Buf (Elt Ideal) ((c.tc : Thread nD τ).loc b) :=
  put c (put c (put c (put c (put c (fun b => m ((c.tc : Thread nD τ).loc b))
    main_v3_0 (resAux c (V m c main_v0) (V m c main_arg1) (V m c main_arg2) (V m c main_v1) (V m c main_v2)))
    main_v3_1 (resZt c (V m c main_v0) (V m c main_arg1) (V m c main_arg2) (V m c main_v1)))
    main_v3_2 (resP c (V m c main_v0) (V m c main_arg1) (V m c main_arg2) (V m c main_v1)))
    main_v3_3 (resLse c (V m c main_v0) (V m c main_arg1) (V m c main_arg2) (V m c main_v1)))
    main_v3_4 (resDl c (V m c main_v0) (V m c main_arg1) (V m c main_arg2) (V m c main_v1) (V m c main_v2))

theorem Gres_0 : Gres m c main_v3_0 = resAux c (V m c main_v0) (V m c main_arg1) (V m c main_arg2) (V m c main_v1) (V m c main_v2) :=
  (put_ne c _ main_v3_4 main_v3_0 _ (by decide)).trans ((put_ne c _ main_v3_3 main_v3_0 _ (by decide)).trans
    ((put_ne c _ main_v3_2 main_v3_0 _ (by decide)).trans ((put_ne c _ main_v3_1 main_v3_0 _ (by decide)).trans (put_self c _ main_v3_0 _))))
theorem Gres_1 : Gres m c main_v3_1 = resZt c (V m c main_v0) (V m c main_arg1) (V m c main_arg2) (V m c main_v1) :=
  (put_ne c _ main_v3_4 main_v3_1 _ (by decide)).trans ((put_ne c _ main_v3_3 main_v3_1 _ (by decide)).trans
    ((put_ne c _ main_v3_2 main_v3_1 _ (by decide)).trans (put_self c _ main_v3_1 _)))
theorem Gres_2 : Gres m c main_v3_2 = resP c (V m c main_v0) (V m c main_arg1) (V m c main_arg2) (V m c main_v1) :=
  (put_ne c _ main_v3_4 main_v3_2 _ (by decide)).trans ((put_ne c _ main_v3_3 main_v3_2 _ (by decide)).trans (put_self c _ main_v3_2 _))
theorem Gres_3 : Gres m c main_v3_3 = resLse c (V m c main_v0) (V m c main_arg1) (V m c main_arg2) (V m c main_v1) :=
  (put_ne c _ main_v3_4 main_v3_3 _ (by decide)).trans (put_self c _ main_v3_3 _)
theorem Gres_4 : Gres m c main_v3_4 = resDl c (V m c main_v0) (V m c main_arg1) (V m c main_arg2) (V m c main_v1) (V m c main_v2) :=
  put_self c _ main_v3_4 _

/-- The contents from which the host lines after the region start. -/
abbrev Wend (c : Dev nD) : Valuation τ sig (Elt Ideal) :=
  Pipeline.withArrays cfg0.spec c (Pipeline.withR (V0 m c) R0 c (Gres m c)) fun w => w.elim0

theorem Wend_res (b : Ref sig .tc) (hb : b ∈ R0) : Wend m c (Proc.devRef .tc b) = Gres m c b :=
  (Pipeline.withArrays_of_ne _ _ _ _ b fun w => w.elim0).trans (Pipeline.withR_of_mem _ _ _ _ b hb)
theorem Wend_arg (b : Ref sig .tc) (hb : b ∉ R0) : Wend m c (Proc.devRef .tc b) = V m c b :=
  (Pipeline.withArrays_of_ne _ _ _ _ b fun w => w.elim0).trans (Pipeline.withR_of_not_mem _ _ _ _ b hb)

/-- The program's results and arguments at its end. -/
theorem run_kernel : θ_run defs (onTc (τ := τ) (main (F := Ideal))) ⟨m, fun _ => 0, ρ⟩ (fun r => ∀ c : Dev nD,
    r.2.mem ((c.tc : Thread nD τ).loc main_v3_0) = (fun y : S2x896.Idx => colAux (fOf (a4 m c)) (zOf (a0 m c) (a1 m c) (a2 m c) (a3 m c) (y 0) (y 1)))
    ∧ r.2.mem ((c.tc : Thread nD τ).loc main_v3_1) = (fun y : S2x896.Idx => colZt (zOf (a0 m c) (a1 m c) (a2 m c) (a3 m c) (y 0) (y 1)))
    ∧ r.2.mem ((c.tc : Thread nD τ).loc main_v4) = (fun y : S96.Idx => meanOf (zOf (a0 m c) (a1 m c) (a2 m c) (a3 m c)) (y 0))
    ∧ r.2.mem ((c.tc : Thread nD τ).loc main_v3_3) = (fun y : S2x896.Idx => colLse (zOf (a0 m c) (a1 m c) (a2 m c) (a3 m c) (y 0) (y 1)))
    ∧ r.2.mem ((c.tc : Thread nD τ).loc main_v5) = (fun y : S2x896x96.Idx => colDl (fOf (a4 m c)) (zOf (a0 m c) (a1 m c) (a2 m c) (a3 m c) (y 0) (y 1)) (y 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (run_results m ρ (Gres m) fun c o0 o1 o2 o3 o4 s0 s1 s2 s3 s4 s5 s6 s7 s8 s9 s10 => by
    rw [run_values, Gres_0, Gres_1, Gres_2, Gres_3, Gres_4])
  have H : ∀ b ∈ Pipeline.restRefs sig cfg0.spec, r.2.mem ((c.tc : Thread nD τ).loc b) = StableHlo.after hostOps1 (Wend m c) (Proc.devRef .tc b) := h.1 c
  have hz : ∀ (b : Fin 2) (s : Fin 896), zTok c (V m c main_v0) (V m c main_arg1) (V m c main_arg2) (V m c main_v1) b s
      = zOf (a0 m c) (a1 m c) (a2 m c) (a3 m c) b s := zTok_eq m c
  have hf : fTok c (V m c main_v2) = fOf (a4 m c) := fTok_eq m c
  have unw : ∀ b : Ref sig .tc, b ∈ Pipeline.restRefs sig cfg0.spec → b ≠ main_v4 → b ≠ main_v5 →
      r.2.mem ((c.tc : Thread nD τ).loc b) = Wend m c (Proc.devRef .tc b) := fun b hb h4 h5 =>
    (H b hb).trans (StableHlo.after_of_forall_not_mem (b := Proc.devRef .tc b) _ _ (List.forall_iff_forall_mem.mp (by
      simp only [hostOps1, List.Forall, StableHlo.unary_writes, StableHlo.reshape_writes, Finset.mem_singleton]
      exact ⟨fun e => h4 (Proc.devRef_injective _ e), fun e => h5 (Proc.devRef_injective _ e)⟩)))
  refine ⟨?_, ?_, ?_, ?_, ?_, ?_, ?_, ?_, ?_, ?_⟩
  · refine (unw main_v3_0 (Pipeline.mem_restRefs_of main_v3_0 (by decide) (by decide)) (by decide) (by decide)).trans
      ((Wend_res m c main_v3_0 (by decide)).trans ((Gres_0 m c).trans ?_))
    funext y
    obtain ⟨b, s, rfl⟩ : ∃ b s, (y : S2x896.Idx) = ix2 b s := ⟨y 0, y 1, eq_ix2 y⟩
    exact congrArg₂ colAux hf (hz b s)
  · refine (unw main_v3_1 (Pipeline.mem_restRefs_of main_v3_1 (by decide) (by decide)) (by decide) (by decide)).trans
      ((Wend_res m c main_v3_1 (by decide)).trans ((Gres_1 m c).trans ?_))
    funext y
    obtain ⟨b, s, rfl⟩ : ∃ b s, (y : S2x896.Idx) = ix2 b s := ⟨y 0, y 1, eq_ix2 y⟩
    exact congrArg colZt (hz b s)
  · refine (H main_v4 (Pipeline.mem_restRefs_of main_v4 (by decide) (by decide))).trans ?_
    after_results
    rw [Wend_res m c main_v3_2 (by decide), Gres_2]
    funext y
    obtain ⟨e, rfl⟩ : ∃ e, (y : S96.Idx) = ix1 e := ⟨y 0, eq_ix1 y⟩
    show shapeCast S96 (resP c (V m c main_v0) (V m c main_arg1) (V m c main_arg2) (V m c main_v1)) shapeCasts_S1x96_S96 (ix1 e)
      = meanOf (zOf (a0 m c) (a1 m c) (a2 m c) (a3 m c)) e
    pointwise
    show pTok _ _ _ _ _ e = _
    unfold pTok meanOf
    simp only [hz]
  · refine (unw main_v3_3 (Pipeline.mem_restRefs_of main_v3_3 (by decide) (by decide)) (by decide) (by decide)).trans
      ((Wend_res m c main_v3_3 (by decide)).trans ((Gres_3 m c).trans ?_))
    funext y
    obtain ⟨b, s, rfl⟩ : ∃ b s, (y : S2x896.Idx) = ix2 b s := ⟨y 0, y 1, eq_ix2 y⟩
    exact congrArg colLse (hz b s)
  · refine (H main_v5 (Pipeline.mem_restRefs_of main_v5 (by decide) (by decide))).trans ?_
    after_results
    rw [Wend_res m c main_v3_4 (by decide), Gres_4]
    funext y
    obtain ⟨b, s, e, rfl⟩ : ∃ b s e, (y : S2x896x96.Idx) = ix3 b s e := ⟨y 0, y 1, y 2, eq_ix3 y⟩
    pointwise
    exact congrFun (congrArg₂ colDl hf (hz b s)) e
  · exact (unw main_arg0 (Pipeline.mem_restRefs_of main_arg0 (by decide) (by decide)) (by decide) (by decide)).trans
      ((Wend_arg m c main_arg0 (by decide)).trans (V_main_arg0 m c))
  · exact (unw main_arg1 (Pipeline.mem_restRefs_of main_arg1 (by decide) (by decide)) (by decide) (by decide)).trans
      ((Wend_arg m c main_arg1 (by decide)).trans (V_main_arg1 m c))
  · exact (unw main_arg2 (Pipeline.mem_restRefs_of main_arg2 (by decide) (by decide)) (by decide) (by decide)).trans
      ((Wend_arg m c main_arg2 (by decide)).trans (V_main_arg2 m c))
  · exact (unw main_arg3 (Pipeline.mem_restRefs_of main_arg3 (by decide) (by decide)) (by decide) (by decide)).trans
      ((Wend_arg m c main_arg3 (by decide)).trans (V_main_arg3 m c))
  · exact (unw main_arg4 (Pipeline.mem_restRefs_of main_arg4 (by decide) (by decide)) (by decide) (by decide)).trans
      ((Wend_arg m c main_arg4 (by decide)).trans (V_main_arg4 m c))

end Cert.KernelIdeal.Hand
-- ==== Proof.RIRun.lean ====
/-
  The reference's program run to its end, over the extended reals: its five results as functions of its five arguments.
-/
module

public import proofs.«01_k».proof.Proof.KIRun
public import proofs.«01_k».proof.Proof.Gen.ReferenceIdeal
public import proofs.«01_k».proof.Proof.Gen.ReferenceIdeal.Frame
public import Idealize.ShloMosaic.Lib.Pipeline.Value
public import Idealize.ShloMosaic.Lib.StableHlo.RunRead
public import Idealize.ShloMosaic.Lib.IdealHost
public import Idealize.ShloMosaic.Lib.Pipeline.ValueKit
public import Idealize.ShloMosaic.Lib.KernelVsHost
public import Idealize.ShloMosaic.Lib.Pointwise

@[expose] public section

set_option maxRecDepth 16384

noncomputable section

namespace Cert.ReferenceIdeal.Hand

open Cert.ReferenceIdeal Cert.ReferenceIdeal.Gen Cert.Columns
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The program's arguments on core `c`, as arrays. -/
abbrev a0 : (⟨3, ![2, 896, 16384]⟩ : Shape).Idx → EReal := m ((c.tc : Thread nD τ).loc main_arg0)
abbrev a1 : (⟨2, ![2, 896]⟩ : Shape).Idx → EReal := m ((c.tc : Thread nD τ).loc main_arg1)
abbrev a2 : (⟨2, ![96, 16384]⟩ : Shape).Idx → BitVec 8 := m ((c.tc : Thread nD τ).loc main_arg2)
abbrev a3 : (⟨1, ![96]⟩ : Shape).Idx → EReal := m ((c.tc : Thread nD τ).loc main_arg3)
abbrev a4 : (⟨3, ![2, 896, 4]⟩ : Shape).Idx → BitVec 32 := m ((c.tc : Thread nD τ).loc main_arg4)

/-- The product of the activations and the weights. -/
abbrev raw : FVec Ideal S2x896x96 .f32 := k0_pay1 (a0 m c) (a2 m c)

theorem hz2 : (![0, 0] : Fin 2 → Nat) = fun _ => 0 := funext fun a => by fin_cases a <;> rfl
theorem hz3 : (![0, 0, 0] : Fin 3 → Nat) = fun _ => 0 := funext fun a => by fin_cases a <;> rfl

theorem iblk0 (t : Fin cfg0.N) : (iblk m c 0 t : S2x896x16384.Idx → EReal) = a0 m c := by
  rcases fin_N0 t with rfl
  funext y
  show (V m c main_arg0 : S2x896x16384.Idx → EReal) _ = _
  rw [V_main_arg0]
  refine congrArg (a0 m c) (Rect.emb_eq_of_coords _ _ _ fun a => ?_)
  match a with
  | 0 => show (y 0).val = 0 + 1 * (y 0).val; omega
  | 1 => show (y 1).val = 0 + 1 * (y 1).val; omega
  | 2 => show (y 2).val = 0 + 1 * (y 2).val; omega
theorem iblk1 (t : Fin cfg0.N) : (iblk m c 1 t : S96x16384.Idx → BitVec 8) = a2 m c := by
  rcases fin_N0 t with rfl
  funext y
  show (V m c main_arg2 : S96x16384.Idx → BitVec 8) _ = _
  rw [V_main_arg2]
  refine congrArg (a2 m c) (Rect.emb_eq_of_coords _ _ _ fun a => ?_)
  match a with
  | 0 => show (y 0).val = 0 + 1 * (y 0).val; omega
  | 1 => show (y 1).val = 0 + 1 * (y 1).val; omega

/-- The region leaves that product in its result. -/
theorem arr_raw : (dats m 0 c).arrAt 2 cfg0.N = (raw m c : Buf (Elt Ideal) ((c.tc : Thread nD τ).loc main_v12)) := by
  refine (dats m 0 c).arrAt_eq_of_after_last 2 t0_0 (by decide +kernel) _ fun j => ?_
  have h : (dats m 0 c).after 2 t0_0 = raw m c := by
    rw [after0_2]
    unfold out0_2
    rw [View.canon_unit_zero hz3, View.ld_unit_zero hz3, View.ld_unit_zero hz2]
    rw [show iblk m c 0 t0_0 = a0 m c from iblk0 m c t0_0, show iblk m c 1 t0_0 = a2 m c from iblk1 m c t0_0]
  rw [h]
  generalize raw m c = R
  rfl

/-- The contents from which the host lines after the region start. -/
def Wend : Valuation τ sig (Elt Ideal) :=
  Pipeline.withArrays cfg0.spec c (V0 m c) fun w => (dats m 0 c).arrAt w cfg0.N

theorem Wend_v12 : Wend m c (Proc.devRef .tc main_v12) = raw m c :=
  (Pipeline.withArrays_arr cfg0.spec launch0.win.arr_inj c (V0 m c) _ 2).trans (arr_raw m c)
theorem Wend_of (b : Ref sig .tc) (hb : ∀ w, Pipeline.arrRef spec0 w ≠ b) : Wend m c (Proc.devRef .tc b) = V m c b :=
  Pipeline.withArrays_of_ne _ _ _ _ b hb
theorem Wend_arg1 : Wend m c (Proc.devRef .tc main_arg1) = a1 m c :=
  (Wend_of m c main_arg1 (by decide)).trans (V_main_arg1 m c)
theorem Wend_arg3 : Wend m c (Proc.devRef .tc main_arg3) = a3 m c :=
  (Wend_of m c main_arg3 (by decide)).trans (V_main_arg3 m c)

/-- A sum over all choices in their flat order is the sum over sequences, positions and ranks. -/
theorem sum_choices (g : Fin 2 → Fin 896 → Fin 4 → ℕ) :
    ∑ x : Fin 7168, g ⟨x.val / 3584, by omega⟩ ⟨x.val / 4 % 896, by omega⟩ ⟨x.val % 4, by omega⟩ = ∑ b, ∑ s, ∑ k, g b s k := by
  have h : ∑ x : Fin 7168, g ⟨x.val / 3584, by omega⟩ ⟨x.val / 4 % 896, by omega⟩ ⟨x.val % 4, by omega⟩
      = ∑ q : Fin 2 × Fin 896 × Fin 4, g q.1 q.2.1 q.2.2 :=
    Fintype.sum_equiv
      { toFun := fun x : Fin 7168 => ((⟨x.val / 3584, by omega⟩, ⟨x.val / 4 % 896, by omega⟩, ⟨x.val % 4, by omega⟩) : Fin 2 × Fin 896 × Fin 4)
        invFun := fun q => ⟨3584 * q.1.val + 4 * q.2.1.val + q.2.2.val, by omega⟩
        left_inv := fun x => Fin.ext (by show 3584 * (x.val / 3584) + 4 * (x.val / 4 % 896) + x.val % 4 = x.val; omega)
        right_inv := fun q => by
          obtain ⟨⟨b, hb⟩, ⟨s, hs⟩, ⟨k, hk⟩⟩ := q
          refine Prod.ext (Fin.ext ?_) (Prod.ext (Fin.ext ?_) (Fin.ext ?_))
          · show (3584 * b + 4 * s + k) / 3584 = b; omega
          · show (3584 * b + 4 * s + k) / 4 % 896 = s; omega
          · show (3584 * b + 4 * s + k) % 4 = k; omega } _ _ fun x => rfl
  rw [h]
  simp only [Fintype.sum_prod_type]

/-- A host sum over sequences and positions, an expert at a time. -/
theorem hostSum01 (h : S2x896x96.ReducesTo [0, 1] S96) (v : S2x896x96.Idx → EReal) (init : EReal) (e : Fin 96) :
    Ideal.hostReduceAdd h v init (ix1 e) = init + ∑ b : Fin 2, ∑ s : Fin 896, v (ix3 b s e) := by
  refine congrArg (init + ·) ?_
  refine (Finset.sum_filter_eq_sum_of_fiber _ (fun k : Fin 2 × Fin 896 => (ix3 k.1 k.2 e : S2x896x96.Idx))
    (fun _ _ e => Prod.ext (congrFun e 0) (congrFun e 1)) (fun i => ?_) v).trans ?_
  · constructor
    · intro d
      refine ⟨(i 0, i 1), ?_⟩
      funext a; apply Fin.ext
      match a with
      | ⟨0, _⟩ => rfl
      | ⟨1, _⟩ => rfl
      | ⟨2, _⟩ => exact (congrArg Fin.val (congrFun d 0)).symm
    · rintro ⟨k, rfl⟩
      funext b
      apply Fin.ext
      match b with
      | ⟨0, _⟩ => rfl
  · simp only [Fintype.sum_prod_type]

/-- The share of all choices that name an expert, as the program's lines before the region leave it. -/
theorem v11_apply (e : Fin 96) : (V m c main_v11 : S96.Idx → EReal) (ix1 e) = fOf (a4 m c) e := by
  show (StableHlo.after hostOps0 (fun b => m (c, b)) (Proc.devRef .tc main_v11) : S96.Idx → EReal) (ix1 e) = _
  after_reads_simp
  pointwise
  simp only [hit_word]
  rw [fold_words]
  unfold fOf
  refine congrArg (fun n : ℕ => Ideal.div (FloatOps.sitofp (F := Ideal) .f32 (BitVec.ofNat 32 n)) (Ideal.ofBits .f32 0x45E00000#32)) ?_
  exact sum_choices fun b s k => if a4 m c (ix3 b s k) = BitVec.ofNat 32 e.val then 1 else 0

/-- The program's end, a result's buffer at a time. -/
theorem run_host : θ_run defs (onTc (τ := τ) (main (F := Ideal))) ⟨m, fun _ => 0, ρ⟩ (fun r => ∀ c : Dev nD,
    ∀ b ∈ Pipeline.restRefs sig spec0, r.2.mem ((c.tc : Thread nD τ).loc b)
      = StableHlo.after hostOps1_2 (StableHlo.after hostOps1_1 (StableHlo.after hostOps1 (Wend m c))) (Proc.devRef .tc b)) := by
  refine (θ_run defs _ _).mono (fun r h c b hb => ((h c).2 b hb).trans ?_) (run_main m ρ)
  show StableHlo.after (hostOps1 ++ (hostOps1_1 ++ (hostOps1_2 ++ []))) (Wend m c) _ = _
  rw [StableHlo.after_append, StableHlo.after_append, List.append_nil]

/-- A token's scaled logits, one expert at a time. -/
theorem v18_apply (b : Fin 2) (s : Fin 896) (e : Fin 96) :
    (StableHlo.after hostOps1 (Wend m c) (Proc.devRef .tc main_v18) : S2x896x96.Idx → EReal) (ix3 b s e)
      = zOf (a0 m c) (a1 m c) (a2 m c) (a3 m c) b s e := by
  after_reads_simp
  rw [Wend_v12, Wend_arg1, Wend_arg3]
  unfold raw k0_pay1
  pointwise
  unfold zOf colZ
  exact congrArg (fun t : EReal => t * a1 m c (ix2 b s) * a3 m c (ix1 e)) (Finset.sum_congr rfl fun k _ => mul_comm _ _)

/-- The largest logit of a token, before its finiteness is asked. -/
theorem v19_apply (W : Valuation τ sig (Elt Ideal)) (Z : Fin 2 → Fin 896 → Fin 96 → EReal)
    (hZ : ∀ b s e, (StableHlo.after hostOps1 W (Proc.devRef .tc main_v18) : S2x896x96.Idx → EReal) (ix3 b s e) = Z b s e) (b : Fin 2) (s : Fin 896) :
    (StableHlo.after hostOps1 W (Proc.devRef .tc main_v19) : S2x896.Idx → EReal) (ix2 b s) = colTop (Z b s) := by
  have h : (StableHlo.after hostOps1 W (Proc.devRef .tc main_v19) : S2x896.Idx → EReal)
      = Host.reduce (FloatOps.maximumf (F := Ideal) (φ := .f32)) (StableHlo.after hostOps1 W (Proc.devRef .tc main_v18) : S2x896x96.Idx → EReal)
        (constant S_ .f32 0xFF800000#32) reducesTo_S2x896x96_S2x896_d2 h_S_ := by
    after_reads_simp
  rw [h]
  pointwise
  exact (Shape.ReducesTo.fold_fiber_r3_a2 reducesTo_S2x896x96_S2x896_d2 (ix2 b s) max (Ideal.ofBits .f32 0xFF800000#32)
    (StableHlo.after hostOps1 W (Proc.devRef .tc main_v18) : S2x896x96.Idx → EReal)).trans
    (congrArg (fun v : Fin 96 → EReal => Finset.univ.fold max (Ideal.ofBits .f32 0xFF800000#32) v) (funext fun e => hZ b s e))

theorem v22_apply (W : Valuation τ sig (Elt Ideal)) (Z : Fin 2 → Fin 896 → Fin 96 → EReal)
    (hZ : ∀ b s e, (StableHlo.after hostOps1 W (Proc.devRef .tc main_v18) : S2x896x96.Idx → EReal) (ix3 b s e) = Z b s e) (b : Fin 2) (s : Fin 896) :
    (StableHlo.after hostOps1 W (Proc.devRef .tc main_v22) : S2x896.Idx → BitVec 1) (ix2 b s)
      = Ideal.cmp .olt (max (colTop (Z b s)) (-colTop (Z b s))) (Ideal.ofBits .f32 0x7F800000#32) := by
  have h : (StableHlo.after hostOps1 W (Proc.devRef .tc main_v22) : S2x896.Idx → BitVec 1)
      = cmpf (F := Ideal) .olt (Host.absf (F := Ideal) (φ := .f32) (StableHlo.after hostOps1 W (Proc.devRef .tc main_v19) : S2x896.Idx → EReal))
        (broadcastInDim S2x896 ![] bcast_S_S2x896 (constant S_ .f32 0x7F800000#32)) := by
    after_reads_simp
  rw [h]
  pointwise
  simp only [v19_apply W Z hZ]
  rfl

theorem v23_apply (W : Valuation τ sig (Elt Ideal)) (y : S2x896.Idx) :
    (StableHlo.after hostOps1_1 W (Proc.devRef .tc main_v23) : S2x896.Idx → EReal) y
      = Scalar.select ((W (Proc.devRef .tc main_v22) : S2x896.Idx → BitVec 1) y) ((W (Proc.devRef .tc main_v19) : S2x896.Idx → EReal) y)
        ((W (Proc.devRef .tc main_cst_2) : S_.Idx → EReal) ix0) := by
  after_reads_simp
  simp only [StableHlo.TRef.ofBuf_toBuf]
  refine congrArg (Scalar.select ((W (Proc.devRef .tc main_v22) : S2x896.Idx → BitVec 1) y) ((W (Proc.devRef .tc main_v19) : S2x896.Idx → EReal) y))
    (congrArg (W (Proc.devRef .tc main_cst_2) : S_.Idx → EReal) (funext fun a => a.elim0))

section tail
variable (W : Valuation τ sig (Elt Ideal)) (Z : Fin 2 → Fin 896 → Fin 96 → EReal) (f : Fin 96 → EReal)
    (hZ : ∀ b s e, (W (Proc.devRef .tc main_v18) : S2x896x96.Idx → EReal) (ix3 b s e) = Z b s e)
    (hM : ∀ b s, (W (Proc.devRef .tc main_v23) : S2x896.Idx → EReal) (ix2 b s) = colMax (Z b s))
    (hf : ∀ e, (W (Proc.devRef .tc main_v11) : S96.Idx → EReal) (ix1 e) = f e)

include hZ hM hf

/-- The log-sum-exps. -/
theorem v30_apply (b : Fin 2) (s : Fin 896) :
    (StableHlo.after hostOps1_2 W (Proc.devRef .tc main_v30) : S2x896.Idx → EReal) (ix2 b s) = colLse (Z b s) := by
  after_reads_simp
  pointwise
  simp only [hZ, hM, hf, meanOf, colAux, colZt, colDl, colG, colP, colLse]
theorem v37_apply (e : Fin 96) :
    (StableHlo.after hostOps1_2 W (Proc.devRef .tc main_v37) : S96.Idx → EReal) (ix1 e) = meanOf Z e := by
  after_reads_simp
  pointwise
  rw [hostSum01]
  pointwise
  simp only [hZ, hM, hf, meanOf, colAux, colZt, colDl, colG, colP, colLse]
theorem v43_apply (b : Fin 2) (s : Fin 896) :
    (StableHlo.after hostOps1_2 W (Proc.devRef .tc main_v43) : S2x896.Idx → EReal) (ix2 b s) = colAux f (Z b s) := by
  after_reads_simp
  pointwise
  simp only [hZ, hM, hf, meanOf, colAux, colZt, colDl, colG, colP, colLse]
theorem v46_apply (b : Fin 2) (s : Fin 896) :
    (StableHlo.after hostOps1_2 W (Proc.devRef .tc main_v46) : S2x896.Idx → EReal) (ix2 b s) = colZt (Z b s) := by
  after_reads_simp
  pointwise
  simp only [hZ, hM, hf, meanOf, colAux, colZt, colDl, colG, colP, colLse]
theorem v59_apply (b : Fin 2) (s : Fin 896) (e : Fin 96) :
    (StableHlo.after hostOps1_2 W (Proc.devRef .tc main_v59) : S2x896x96.Idx → EReal) (ix3 b s e) = colDl f (Z b s) e := by
  after_reads_simp
  pointwise
  simp only [hZ, hM, hf, meanOf, colAux, colZt, colDl, colG, colP, colLse]
end tail

/-- The contents after the lines up to the largest logits, and those after the finiteness choice. -/
abbrev W1 : Valuation τ sig (Elt Ideal) := StableHlo.after hostOps1 (Wend m c)
abbrev W2 : Valuation τ sig (Elt Ideal) := StableHlo.after hostOps1_1 (W1 m c)

/-- The logits as a function of sequence, position and expert. -/
abbrev zR : Fin 2 → Fin 896 → Fin 96 → EReal := zOf (a0 m c) (a1 m c) (a2 m c) (a3 m c)

theorem W2_z (b : Fin 2) (s : Fin 896) (e : Fin 96) : (W2 m c (Proc.devRef .tc main_v18) : S2x896x96.Idx → EReal) (ix3 b s e) = zR m c b s e := by
  have h : W2 m c (Proc.devRef .tc main_v18) = W1 m c (Proc.devRef .tc main_v18) := by
    show StableHlo.after hostOps1_1 (W1 m c) (Proc.devRef .tc main_v18) = _
    generalize W1 m c = W
    after_reads_simp
  exact (congrArg (fun g : S2x896x96.Idx → EReal => g (ix3 b s e)) h).trans (v18_apply m c b s e)
theorem W2_top (b : Fin 2) (s : Fin 896) : (W2 m c (Proc.devRef .tc main_v23) : S2x896.Idx → EReal) (ix2 b s) = colMax (zR m c b s) := by
  have h0 : (W1 m c (Proc.devRef .tc main_cst_2) : S_.Idx → EReal) ix0 = (0 : EReal) := by
    show (StableHlo.after hostOps1 (Wend m c) (Proc.devRef .tc main_cst_2) : S_.Idx → EReal) ix0 = (0 : EReal)
    after_reads_simp
    pointwise
  refine (v23_apply (W1 m c) (ix2 b s)).trans ?_
  have h1 := v22_apply (Wend m c) (zR m c) (v18_apply m c) b s
  have h2 := v19_apply (Wend m c) (zR m c) (v18_apply m c) b s
  exact congr (congrArg₂ Scalar.select h1 h2) h0
theorem W2_f (e : Fin 96) : (W2 m c (Proc.devRef .tc main_v11) : S96.Idx → EReal) (ix1 e) = fOf (a4 m c) e := by
  have h : W2 m c (Proc.devRef .tc main_v11) = Wend m c (Proc.devRef .tc main_v11) := by
    show StableHlo.after hostOps1_1 (StableHlo.after hostOps1 (Wend m c)) (Proc.devRef .tc main_v11) = _
    generalize Wend m c = W
    after_reads_simp
  exact (congrArg (fun g : S96.Idx → EReal => g (ix1 e)) (h.trans (Wend_of m c main_v11 (by decide)))).trans (v11_apply m c e)

/-- The program's results and arguments at its end. -/
theorem run_reference : θ_run defs (onTc (τ := τ) (main (F := Ideal))) ⟨m, fun _ => 0, ρ⟩ (fun r => ∀ c : Dev nD,
    r.2.mem ((c.tc : Thread nD τ).loc main_v43) = (fun y : S2x896.Idx => colAux (fOf (a4 m c)) (zOf (a0 m c) (a1 m c) (a2 m c) (a3 m c) (y 0) (y 1)))
    ∧ r.2.mem ((c.tc : Thread nD τ).loc main_v46) = (fun y : S2x896.Idx => colZt (zOf (a0 m c) (a1 m c) (a2 m c) (a3 m c) (y 0) (y 1)))
    ∧ r.2.mem ((c.tc : Thread nD τ).loc main_v37) = (fun y : S96.Idx => meanOf (zOf (a0 m c) (a1 m c) (a2 m c) (a3 m c)) (y 0))
    ∧ r.2.mem ((c.tc : Thread nD τ).loc main_v30) = (fun y : S2x896.Idx => colLse (zOf (a0 m c) (a1 m c) (a2 m c) (a3 m c) (y 0) (y 1)))
    ∧ r.2.mem ((c.tc : Thread nD τ).loc main_v59) = (fun y : S2x896x96.Idx => colDl (fOf (a4 m c)) (zOf (a0 m c) (a1 m c) (a2 m c) (a3 m c) (y 0) (y 1)) (y 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (θ_run_and (run_host m ρ) (Cert.ReferenceIdeal.Gen.unchanged m ρ))
  have H := h.1 c
  refine ⟨?_, ?_, ?_, ?_, ?_, h.2 c⟩
  · refine (H main_v43 (Pipeline.mem_restRefs_of main_v43 (by decide) (by decide))).trans ?_
    funext y
    obtain ⟨b, s, rfl⟩ : ∃ b s, (y : S2x896.Idx) = ix2 b s := ⟨y 0, y 1, eq_ix2 y⟩
    exact v43_apply (W2 m c) (zR m c) (fOf (a4 m c)) (W2_z m c) (W2_top m c) (W2_f m c) b s
  · refine (H main_v46 (Pipeline.mem_restRefs_of main_v46 (by decide) (by decide))).trans ?_
    funext y
    obtain ⟨b, s, rfl⟩ : ∃ b s, (y : S2x896.Idx) = ix2 b s := ⟨y 0, y 1, eq_ix2 y⟩
    exact v46_apply (W2 m c) (zR m c) (fOf (a4 m c)) (W2_z m c) (W2_top m c) (W2_f m c) b s
  · refine (H main_v37 (Pipeline.mem_restRefs_of main_v37 (by decide) (by decide))).trans ?_
    funext y
    obtain ⟨e, rfl⟩ : ∃ e, (y : S96.Idx) = ix1 e := ⟨y 0, eq_ix1 y⟩
    exact v37_apply (W2 m c) (zR m c) (fOf (a4 m c)) (W2_z m c) (W2_top m c) (W2_f m c) e
  · refine (H main_v30 (Pipeline.mem_restRefs_of main_v30 (by decide) (by decide))).trans ?_
    funext y
    obtain ⟨b, s, rfl⟩ : ∃ b s, (y : S2x896.Idx) = ix2 b s := ⟨y 0, y 1, eq_ix2 y⟩
    exact v30_apply (W2 m c) (zR m c) (fOf (a4 m c)) (W2_z m c) (W2_top m c) (W2_f m c) b s
  · refine (H main_v59 (Pipeline.mem_restRefs_of main_v59 (by decide) (by decide))).trans ?_
    funext y
    obtain ⟨b, s, e, rfl⟩ : ∃ b s e, (y : S2x896x96.Idx) = ix3 b s e := ⟨y 0, y 1, y 2, eq_ix3 y⟩
    exact v59_apply (W2 m c) (zR m c) (fOf (a4 m c)) (W2_z m c) (W2_top m c) (W2_f m c) b s e

end Cert.ReferenceIdeal.Hand
-- ==== Proof.lean ====
/- The proof of the claims of `proofs.«01_k».proof.Defs`, assembled from the modules beside it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KFrame
public import proofs.«01_k».proof.Proof.Gen.ReferenceIdeal
public import proofs.«01_k».proof.Proof.Gen.ReferenceIdeal.Frame
public import proofs.«01_k».proof.Proof.KIFrame
public import proofs.«01_k».proof.Proof.KIRun
public import proofs.«01_k».proof.Proof.RIRun
public import Idealize.ShloMosaic.Adequacy
public import Idealize.ShloMosaic.Init

@[expose] public section

noncomputable section

namespace Cert.Proof

open Idealize.ShloMosaic Idealize.SL.Sem

/-- Both programs end with the same five results, each the same function of the arguments. -/
theorem algebraic [hK : Cert.KernelIdeal.Facts] [hR : Cert.ReferenceIdeal.Facts] : Cert.algebraic_KernelIdeal_ReferenceIdeal := by
  intro m g m' g' _ hagree
  refine ⟨_, _, _, _, _, Cert.KernelIdeal.Hand.run_kernel m g, ?_⟩
  refine (θ_run _ _ _).mono (fun r h c => ?_) (Cert.ReferenceIdeal.Hand.run_reference m' g')
  have h := h c
  obtain ⟨e0, e1, e2, e3, e4⟩ := hagree c
  have e0 : Cert.ReferenceIdeal.Hand.a0 m' c = Cert.KernelIdeal.Hand.a0 m c := e0
  have e1 : Cert.ReferenceIdeal.Hand.a1 m' c = Cert.KernelIdeal.Hand.a1 m c := e1
  have e2 : Cert.ReferenceIdeal.Hand.a2 m' c = Cert.KernelIdeal.Hand.a2 m c := e2
  have e3 : Cert.ReferenceIdeal.Hand.a3 m' c = Cert.KernelIdeal.Hand.a3 m c := e3
  have e4 : Cert.ReferenceIdeal.Hand.a4 m' c = Cert.KernelIdeal.Hand.a4 m c := e4
  rw [e0, e1, e2, e3, e4] at h
  exact h

/-- The programs run, leave their arguments unchanged and end quiet; and the idealized kernel and the reference agree. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
